-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_ordered [hKernelIdeal : Cert.KernelIdeal.Facts] [hReferenceIdeal : Cert.ReferenceIdeal.Facts] [hOn_ordered : Cert.On_ordered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Layout.block ⟨2, ![4096, 256]⟩ ⟨2, ![4096, 8192]⟩ 1 32 c ((Cert.On_ordered.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![4096, 256]⟩ : Shape).Idx → _) i = 1#1 → r.2.mem ((c.tc : Thread Cert.KernelIdeal.nD Cert.KernelIdeal.τ).loc Cert.KernelIdeal.main_v1) i = (Layout.block ⟨2, ![4096, 256]⟩ ⟨2, ![4096, 8192]⟩ 1 32 c v0 : (⟨2, ![4096, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 8192]⟩ : Shape).Idx, (Cert.On_ordered.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v0) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_ordered : Cert.On_ordered.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_ordered (hKernelIdeal := hKernelIdeal) (hReferenceIdeal := hReferenceIdeal) (hOn_ordered := hOn_ordered)
-- ==== On_ordered.lean ====
abbrev S4096x4096 : Shape := ⟨2, ![4096, 4096]⟩
abbrev S4096x8192 : Shape := ⟨2, ![4096, 8192]⟩
abbrev S8192 : Shape := ⟨1, ![8192]⟩
abbrev S1x8192 : Shape := ⟨2, ![1, 8192]⟩
abbrev S_ : Shape := ⟨0, ![]⟩
abbrev S4096 : Shape := ⟨1, ![4096]⟩
abbrev S4096x1 : Shape := ⟨2, ![4096, 1]⟩

class Facts : Prop where
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x8192_S4096x8192_0_1 : S1x8192.BroadcastsInDim S4096x8192 (![0, 1] : Fin 2 → Fin S4096x8192.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)

variable [Facts]

def fn_where {F : FTy → Type} [FloatOps F] (arg0 : IVec S1x8192 1) (arg1 : IVec S1x8192 32) (arg2 : IVec S1x8192 32) : IVec S1x8192 32 :=
  let v0 : IVec S1x8192 32 := select arg0 arg1 arg2
  v0

def fn_floor_divide {F : FTy → Type} [FloatOps F] (arg0 : IVec S1x8192 32) (arg1 : IVec S_ 32) : IVec S1x8192 32 :=
  let v0 : IVec S_ 32 := id arg1
  let v1 : IVec S1x8192 32 := broadcastInDim S1x8192 ![] bcast_S_S1x8192 v0
  let v2 : IVec S1x8192 32 := Host.divsi arg0 v1
  let v3 : IVec S1x8192 32 := signi arg0
  let v4 : IVec S_ 32 := signi v0
  let v5 : IVec S1x8192 32 := broadcastInDim S1x8192 ![] bcast_S_S1x8192 v4
  let v6 : IVec S1x8192 1 := cmpi .ne v3 v5
  let v7 : IVec S1x8192 32 := broadcastInDim S1x8192 ![] bcast_S_S1x8192 v0
  let v8 : IVec S1x8192 32 := Host.remsi arg0 v7
  let c : IVec S_ 32 := constantI S_ 32 0#32
  let v9 : IVec S1x8192 32 := broadcastInDim S1x8192 ![] bcast_S_S1x8192 c
  let v10 : IVec S1x8192 1 := cmpi .ne v8 v9
  let v11 : IVec S1x8192 1 := andi v6 v10
  let c_0 : IVec S_ 32 := constantI S_ 32 1#32
  let v12 : IVec S1x8192 32 := broadcastInDim S1x8192 ![] bcast_S_S1x8192 c_0
  let v13 : IVec S1x8192 32 := subi v2 v12
  let v14 : IVec S1x8192 32 := fn_where (F := F) v11 v13 v2
  v14

def fn_where_1 {F : FTy → Type} [FloatOps F] (arg0 : IVec S4096x1 1) (arg1 : IVec S4096x1 32) (arg2 : IVec S4096x1 32) : IVec S4096x1 32 :=
  let v0 : IVec S4096x1 32 := select arg0 arg1 arg2
  v0

def fn_floor_divide_0 {F : FTy → Type} [FloatOps F] (arg0 : IVec S4096x1 32) (arg1 : IVec S_ 32) : IVec S4096x1 32 :=
  let v0 : IVec S_ 32 := id arg1
  let v1 : IVec S4096x1 32 := broadcastInDim S4096x1 ![] bcast_S_S4096x1 v0
  let v2 : IVec S4096x1 32 := Host.divsi arg0 v1
  let v3 : IVec S4096x1 32 := signi arg0
  let v4 : IVec S_ 32 := signi v0
  let v5 : IVec S4096x1 32 := broadcastInDim S4096x1 ![] bcast_S_S4096x1 v4
  let v6 : IVec S4096x1 1 := cmpi .ne v3 v5
  let v7 : IVec S4096x1 32 := broadcastInDim S4096x1 ![] bcast_S_S4096x1 v0
  let v8 : IVec S4096x1 32 := Host.remsi arg0 v7
  let c : IVec S_ 32 := constantI S_ 32 0#32
  let v9 : IVec S4096x1 32 := broadcastInDim S4096x1 ![] bcast_S_S4096x1 c
  let v10 : IVec S4096x1 1 := cmpi .ne v8 v9
  let v11 : IVec S4096x1 1 := andi v6 v10
  let c_0 : IVec S_ 32 := constantI S_ 32 1#32
  let v12 : IVec S4096x1 32 := broadcastInDim S4096x1 ![] bcast_S_S4096x1 c_0
  let v13 : IVec S4096x1 32 := subi v2 v12
  let v14 : IVec S4096x1 32 := fn_where_1 (F := F) v11 v13 v2
  v14

def fn_where_2 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S4096x8192 32) (arg1 : IVec S_ 32) : IVec S4096x8192 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_2 (F := F) v1 c_0 v0
  let v3 : IVec S4096x8192 32 := broadcastInDim S4096x8192 ![] bcast_S_S4096x8192 v2
  let v4 : IVec S4096x8192 32 := Host.remsi arg0 v3
  let c_1 : IVec S_ 32 := constantI S_ 32 0#32
  let v5 : IVec S4096x8192 32 := broadcastInDim S4096x8192 ![] bcast_S_S4096x8192 c_1
  let v6 : IVec S4096x8192 1 := cmpi .ne v4 v5
  let c_2 : IVec S_ 32 := constantI S_ 32 0#32
  let v7 : IVec S4096x8192 32 := broadcastInDim S4096x8192 ![] bcast_S_S4096x8192 c_2
  let v8 : IVec S4096x8192 1 := cmpi .slt v4 v7
  let c_3 : IVec S_ 32 := constantI S_ 32 0#32
  let v9 : IVec S_ 1 := cmpi .slt v2 c_3
  let v10 : IVec S4096x8192 1 := broadcastInDim S4096x8192 ![] bcast_S_S4096x8192 v9
  let v11 : IVec S4096x8192 1 := cmpi .ne v8 v10
  let v12 : IVec S4096x8192 1 := andi v11 v6
  let v13 : IVec S4096x8192 32 := broadcastInDim S4096x8192 ![] bcast_S_S4096x8192 v2
  let v14 : IVec S4096x8192 32 := addi v4 v13
  let v15 : IVec S4096x8192 32 := select v12 v14 v4
  v15

def fn {F : FTy → Type} [FloatOps F] (main_arg0 : FVec F S4096x4096 .f32) (main_arg1 : FVec F S4096x8192 .f32) : IVec S4096x8192 1 :=
  let main_v0 : IVec S8192 32 := iotaInDim S8192 32 0
  let main_v1 : IVec S1x8192 32 := broadcastInDim S1x8192 ![1] bcast_S8192_S1x8192_1 main_v0
  let main_c : IVec S_ 32 := constantI S_ 32 256#32
  let main_v2 : IVec S1x8192 32 := fn_floor_divide (F := F) main_v1 main_c
  let main_v3 : IVec S4096 32 := iotaInDim S4096 32 0
  let main_v4 : IVec S4096x1 32 := broadcastInDim S4096x1 ![0] bcast_S4096_S4096x1_0 main_v3
  let main_c_0 : IVec S_ 32 := constantI S_ 32 128#32
  let main_v5 : IVec S4096x1 32 := fn_floor_divide_0 (F := F) main_v4 main_c_0
  let main_v6 : IVec S4096x8192 32 := broadcastInDim S4096x8192 ![0, 1] bcast_S1x8192_S4096x8192_0_1 main_v2
  let main_v7 : IVec S4096x8192 32 := broadcastInDim S4096x8192 ![0, 1] bcast_S4096x1_S4096x8192_0_1 main_v5
  let main_v8 : IVec S4096x8192 32 := subi main_v6 main_v7
  let main_c_1 : IVec S_ 32 := constantI S_ 32 32#32
  let main_v9 : IVec S4096x8192 32 := fn_remainder (F := F) main_v8 main_c_1
  let main_c_2 : IVec S_ 32 := constantI S_ 32 0#32
  let main_v10 : IVec S4096x8192 32 := broadcastInDim S4096x8192 ![] bcast_S_S4096x8192 main_c_2
  let main_v11 : IVec S4096x8192 1 := cmpi .eq main_v9 main_v10
  let main_c_3 : IVec S_ 32 := constantI S_ 32 8#32
  let main_v12 : IVec S4096x8192 32 := broadcastInDim S4096x8192 ![] bcast_S_S4096x8192 main_c_3
  let main_v13 : IVec S4096x8192 1 := cmpi .sge main_v9 main_v12
  let main_v14 : IVec S4096x8192 1 := ori main_v11 main_v13
  main_v14
-- ==== Kernel.lean ====
abbrev S128x4096 : Shape := ⟨2, ![128, 4096]⟩
abbrev S4096x8192 : Shape := ⟨2, ![4096, 8192]⟩
abbrev S4096x256 : Shape := ⟨2, ![4096, 256]⟩
abbrev S2x4096x256 : Shape := ⟨3, ![2, 4096, 256]⟩
abbrev S32x128x256 : Shape := ⟨3, ![32, 128, 256]⟩
abbrev S2 : Shape := ⟨1, ![2]⟩
abbrev S32 : Shape := ⟨1, ![32]⟩
abbrev S1 : Shape := ⟨1, ![1]⟩
abbrev S_ : Shape := ⟨0, ![]⟩
abbrev S1x4096x256 : Shape := ⟨3, ![1, 4096, 256]⟩
abbrev S128x256 : Shape := ⟨2, ![128, 256]⟩
abbrev S1x128x256 : Shape := ⟨3, ![1, 128, 256]⟩

abbrev nBuf : Space → Nat
  | .hbm => 3
  | .vmem => 4
  | .smem => 0
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S2x4096x256, .f32⟩
  | .local _ .vmem, ⟨3, _⟩ => ⟨S32x128x256, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1

abbrev nD : Nat := 32
abbrev τ : Topo := Topo.v7x

variable {F : FTy → Type} [FloatOps F]

abbrev grid0 : Pipeline.Grid := .none

def k0_off1 (d0 : Dev nD) (c0_i32 : BitVec 32) : Fin 2 → Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3 : BitVec 32 := Scalar.addi v2 c0_i32
  let c32_i32_0 : BitVec 32 := 32#32
  let v4 : BitVec 32 := Scalar.remsi v3 c32_i32_0
  let c256_i32 : BitVec 32 := 256#32
  let v5 : BitVec 32 := Scalar.muli v4 c256_i32
  ![0, v5.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v32 : BitVec 32 := Scalar.muli v2 c128_i32
  let v33 : Index := Scalar.indexCast v32
  let c0_26 : Index := 0#32
  ![v33.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_52 : BitVec 32 := 128#32
  let v61 : BitVec 32 := Scalar.muli v2 c128_i32_52
  let c0_i32_58 : BitVec 32 := 0#32
  ![v61.toNat, 0]
def k0_dev1 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_50 : BitVec 32 := 1#32
  let v59 : BitVec 32 := Scalar.addi v2 c1_i32_50
  let c32_i32_51 : BitVec 32 := 32#32
  let v60 : BitVec 32 := Scalar.remsi v59 c32_i32_51
  let c1_i32_56 : BitVec 32 := 1#32
  let v62 : BitVec 32 := Scalar.muli v60 c1_i32_56
  let v63 : BitVec 32 := Scalar.addi c0_i32_57 v62
  v63.toNat
def k0_dev2 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_99 : BitVec 32 := 2#32
  let v107 : BitVec 32 := Scalar.addi v2 c2_i32_99
  let c32_i32_100 : BitVec 32 := 32#32
  let v108 : BitVec 32 := Scalar.remsi v107 c32_i32_100
  let c1_i32_105 : BitVec 32 := 1#32
  let v110 : BitVec 32 := Scalar.muli v108 c1_i32_105
  let v111 : BitVec 32 := Scalar.addi c0_i32_106 v110
  v111.toNat
def k0_dev3 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_148 : BitVec 32 := 3#32
  let v155 : BitVec 32 := Scalar.addi v2 c3_i32_148
  let c32_i32_149 : BitVec 32 := 32#32
  let v156 : BitVec 32 := Scalar.remsi v155 c32_i32_149
  let c1_i32_154 : BitVec 32 := 1#32
  let v158 : BitVec 32 := Scalar.muli v156 c1_i32_154
  let v159 : BitVec 32 := Scalar.addi c0_i32_155 v158
  v159.toNat
def k0_dev4 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_197 : BitVec 32 := 4#32
  let v203 : BitVec 32 := Scalar.addi v2 c4_i32_197
  let c32_i32_198 : BitVec 32 := 32#32
  let v204 : BitVec 32 := Scalar.remsi v203 c32_i32_198
  let c1_i32_203 : BitVec 32 := 1#32
  let v206 : BitVec 32 := Scalar.muli v204 c1_i32_203
  let v207 : BitVec 32 := Scalar.addi c0_i32_204 v206
  v207.toNat
def k0_dev5 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_246 : BitVec 32 := 5#32
  let v251 : BitVec 32 := Scalar.addi v2 c5_i32_246
  let c32_i32_247 : BitVec 32 := 32#32
  let v252 : BitVec 32 := Scalar.remsi v251 c32_i32_247
  let c1_i32_252 : BitVec 32 := 1#32
  let v254 : BitVec 32 := Scalar.muli v252 c1_i32_252
  let v255 : BitVec 32 := Scalar.addi c0_i32_253 v254
  v255.toNat
def k0_dev6 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_295 : BitVec 32 := 6#32
  let v299 : BitVec 32 := Scalar.addi v2 c6_i32_295
  let c32_i32_296 : BitVec 32 := 32#32
  let v300 : BitVec 32 := Scalar.remsi v299 c32_i32_296
  let c1_i32_301 : BitVec 32 := 1#32
  let v302 : BitVec 32 := Scalar.muli v300 c1_i32_301
  let v303 : BitVec 32 := Scalar.addi c0_i32_302 v302
  v303.toNat
def k0_dev7 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_344 : BitVec 32 := 7#32
  let v347 : BitVec 32 := Scalar.addi v2 c7_i32_344
  let c32_i32_345 : BitVec 32 := 32#32
  let v348 : BitVec 32 := Scalar.remsi v347 c32_i32_345
  let c1_i32_350 : BitVec 32 := 1#32
  let v350 : BitVec 32 := Scalar.muli v348 c1_i32_350
  let v351 : BitVec 32 := Scalar.addi c0_i32_351 v350
  v351.toNat
def k0_dev8 (d0 : Dev nD) : Nat :=
  let c0_i32_400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_393 : BitVec 32 := 8#32
  let v395 : BitVec 32 := Scalar.addi v2 c8_i32_393
  let c32_i32_394 : BitVec 32 := 32#32
  let v396 : BitVec 32 := Scalar.remsi v395 c32_i32_394
  let c1_i32_399 : BitVec 32 := 1#32
  let v398 : BitVec 32 := Scalar.muli v396 c1_i32_399
  let v399 : BitVec 32 := Scalar.addi c0_i32_400 v398
  v399.toNat
def k0_dev9 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_442 : BitVec 32 := 9#32
  let v443 : BitVec 32 := Scalar.addi v2 c9_i32_442
  let c32_i32_443 : BitVec 32 := 32#32
  let v444 : BitVec 32 := Scalar.remsi v443 c32_i32_443
  let c1_i32_448 : BitVec 32 := 1#32
  let v446 : BitVec 32 := Scalar.muli v444 c1_i32_448
  let v447 : BitVec 32 := Scalar.addi c0_i32_449 v446
  v447.toNat
def k0_dev10 (d0 : Dev nD) : Nat :=
  let c0_i32_498 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_491 : BitVec 32 := 10#32
  let v491 : BitVec 32 := Scalar.addi v2 c10_i32_491
  let c32_i32_492 : BitVec 32 := 32#32
  let v492 : BitVec 32 := Scalar.remsi v491 c32_i32_492
  let c1_i32_497 : BitVec 32 := 1#32
  let v494 : BitVec 32 := Scalar.muli v492 c1_i32_497
  let v495 : BitVec 32 := Scalar.addi c0_i32_498 v494
  v495.toNat
def k0_dev11 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_540 : BitVec 32 := 11#32
  let v539 : BitVec 32 := Scalar.addi v2 c11_i32_540
  let c32_i32_541 : BitVec 32 := 32#32
  let v540 : BitVec 32 := Scalar.remsi v539 c32_i32_541
  let c1_i32_546 : BitVec 32 := 1#32
  let v542 : BitVec 32 := Scalar.muli v540 c1_i32_546
  let v543 : BitVec 32 := Scalar.addi c0_i32_547 v542
  v543.toNat
def k0_dev12 (d0 : Dev nD) : Nat :=
  let c0_i32_596 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_589 : BitVec 32 := 12#32
  let v587 : BitVec 32 := Scalar.addi v2 c12_i32_589
  let c32_i32_590 : BitVec 32 := 32#32
  let v588 : BitVec 32 := Scalar.remsi v587 c32_i32_590
  let c1_i32_595 : BitVec 32 := 1#32
  let v590 : BitVec 32 := Scalar.muli v588 c1_i32_595
  let v591 : BitVec 32 := Scalar.addi c0_i32_596 v590
  v591.toNat
def k0_dev13 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_638 : BitVec 32 := 13#32
  let v635 : BitVec 32 := Scalar.addi v2 c13_i32_638
  let c32_i32_639 : BitVec 32 := 32#32
  let v636 : BitVec 32 := Scalar.remsi v635 c32_i32_639
  let c1_i32_644 : BitVec 32 := 1#32
  let v638 : BitVec 32 := Scalar.muli v636 c1_i32_644
  let v639 : BitVec 32 := Scalar.addi c0_i32_645 v638
  v639.toNat
def k0_dev14 (d0 : Dev nD) : Nat :=
  let c0_i32_694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_687 : BitVec 32 := 14#32
  let v683 : BitVec 32 := Scalar.addi v2 c14_i32_687
  let c32_i32_688 : BitVec 32 := 32#32
  let v684 : BitVec 32 := Scalar.remsi v683 c32_i32_688
  let c1_i32_693 : BitVec 32 := 1#32
  let v686 : BitVec 32 := Scalar.muli v684 c1_i32_693
  let v687 : BitVec 32 := Scalar.addi c0_i32_694 v686
  v687.toNat
def k0_dev15 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_736 : BitVec 32 := 15#32
  let v731 : BitVec 32 := Scalar.addi v2 c15_i32_736
  let c32_i32_737 : BitVec 32 := 32#32
  let v732 : BitVec 32 := Scalar.remsi v731 c32_i32_737
  let c1_i32_742 : BitVec 32 := 1#32
  let v734 : BitVec 32 := Scalar.muli v732 c1_i32_742
  let v735 : BitVec 32 := Scalar.addi c0_i32_743 v734
  v735.toNat
def k0_dev16 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_785 : BitVec 32 := 16#32
  let v779 : BitVec 32 := Scalar.addi v2 c16_i32_785
  let c32_i32_786 : BitVec 32 := 32#32
  let v780 : BitVec 32 := Scalar.remsi v779 c32_i32_786
  let c1_i32_791 : BitVec 32 := 1#32
  let v782 : BitVec 32 := Scalar.muli v780 c1_i32_791
  let v783 : BitVec 32 := Scalar.addi c0_i32_792 v782
  v783.toNat
def k0_dev17 (d0 : Dev nD) : Nat :=
  let c0_i32_841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_834 : BitVec 32 := 17#32
  let v827 : BitVec 32 := Scalar.addi v2 c17_i32_834
  let c32_i32_835 : BitVec 32 := 32#32
  let v828 : BitVec 32 := Scalar.remsi v827 c32_i32_835
  let c1_i32_840 : BitVec 32 := 1#32
  let v830 : BitVec 32 := Scalar.muli v828 c1_i32_840
  let v831 : BitVec 32 := Scalar.addi c0_i32_841 v830
  v831.toNat
def k0_dev18 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_883 : BitVec 32 := 18#32
  let v875 : BitVec 32 := Scalar.addi v2 c18_i32_883
  let c32_i32_884 : BitVec 32 := 32#32
  let v876 : BitVec 32 := Scalar.remsi v875 c32_i32_884
  let c1_i32_889 : BitVec 32 := 1#32
  let v878 : BitVec 32 := Scalar.muli v876 c1_i32_889
  let v879 : BitVec 32 := Scalar.addi c0_i32_890 v878
  v879.toNat
def k0_dev19 (d0 : Dev nD) : Nat :=
  let c0_i32_939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_932 : BitVec 32 := 19#32
  let v923 : BitVec 32 := Scalar.addi v2 c19_i32_932
  let c32_i32_933 : BitVec 32 := 32#32
  let v924 : BitVec 32 := Scalar.remsi v923 c32_i32_933
  let c1_i32_938 : BitVec 32 := 1#32
  let v926 : BitVec 32 := Scalar.muli v924 c1_i32_938
  let v927 : BitVec 32 := Scalar.addi c0_i32_939 v926
  v927.toNat
def k0_dev20 (d0 : Dev nD) : Nat :=
  let c0_i32_988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_981 : BitVec 32 := 20#32
  let v971 : BitVec 32 := Scalar.addi v2 c20_i32_981
  let c32_i32_982 : BitVec 32 := 32#32
  let v972 : BitVec 32 := Scalar.remsi v971 c32_i32_982
  let c1_i32_987 : BitVec 32 := 1#32
  let v974 : BitVec 32 := Scalar.muli v972 c1_i32_987
  let v975 : BitVec 32 := Scalar.addi c0_i32_988 v974
  v975.toNat
def k0_dev21 (d0 : Dev nD) : Nat :=
  let c0_i32_1037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1030 : BitVec 32 := 21#32
  let v1019 : BitVec 32 := Scalar.addi v2 c21_i32_1030
  let c32_i32_1031 : BitVec 32 := 32#32
  let v1020 : BitVec 32 := Scalar.remsi v1019 c32_i32_1031
  let c1_i32_1036 : BitVec 32 := 1#32
  let v1022 : BitVec 32 := Scalar.muli v1020 c1_i32_1036
  let v1023 : BitVec 32 := Scalar.addi c0_i32_1037 v1022
  v1023.toNat
def k0_dev22 (d0 : Dev nD) : Nat :=
  let c0_i32_1086 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1079 : BitVec 32 := 22#32
  let v1067 : BitVec 32 := Scalar.addi v2 c22_i32_1079
  let c32_i32_1080 : BitVec 32 := 32#32
  let v1068 : BitVec 32 := Scalar.remsi v1067 c32_i32_1080
  let c1_i32_1085 : BitVec 32 := 1#32
  let v1070 : BitVec 32 := Scalar.muli v1068 c1_i32_1085
  let v1071 : BitVec 32 := Scalar.addi c0_i32_1086 v1070
  v1071.toNat
def k0_dev23 (d0 : Dev nD) : Nat :=
  let c0_i32_1135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1128 : BitVec 32 := 23#32
  let v1115 : BitVec 32 := Scalar.addi v2 c23_i32_1128
  let c32_i32_1129 : BitVec 32 := 32#32
  let v1116 : BitVec 32 := Scalar.remsi v1115 c32_i32_1129
  let c1_i32_1134 : BitVec 32 := 1#32
  let v1118 : BitVec 32 := Scalar.muli v1116 c1_i32_1134
  let v1119 : BitVec 32 := Scalar.addi c0_i32_1135 v1118
  v1119.toNat
def k0_dev24 (d0 : Dev nD) : Nat :=
  let c0_i32_1184 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1177 : BitVec 32 := 24#32
  let v1163 : BitVec 32 := Scalar.addi v2 c24_i32_1177
  let c32_i32_1178 : BitVec 32 := 32#32
  let v1164 : BitVec 32 := Scalar.remsi v1163 c32_i32_1178
  let c1_i32_1183 : BitVec 32 := 1#32
  let v1166 : BitVec 32 := Scalar.muli v1164 c1_i32_1183
  let v1167 : BitVec 32 := Scalar.addi c0_i32_1184 v1166
  v1167.toNat
def k0_dev25 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1226 : BitVec 32 := 25#32
  let v1211 : BitVec 32 := Scalar.addi v2 c25_i32_1226
  let c32_i32_1227 : BitVec 32 := 32#32
  let v1212 : BitVec 32 := Scalar.remsi v1211 c32_i32_1227
  let c1_i32_1232 : BitVec 32 := 1#32
  let v1214 : BitVec 32 := Scalar.muli v1212 c1_i32_1232
  let v1215 : BitVec 32 := Scalar.addi c0_i32_1233 v1214
  v1215.toNat
def k0_dev26 (d0 : Dev nD) : Nat :=
  let c0_i32_1282 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1275 : BitVec 32 := 26#32
  let v1259 : BitVec 32 := Scalar.addi v2 c26_i32_1275
  let c32_i32_1276 : BitVec 32 := 32#32
  let v1260 : BitVec 32 := Scalar.remsi v1259 c32_i32_1276
  let c1_i32_1281 : BitVec 32 := 1#32
  let v1262 : BitVec 32 := Scalar.muli v1260 c1_i32_1281
  let v1263 : BitVec 32 := Scalar.addi c0_i32_1282 v1262
  v1263.toNat
def k0_dev27 (d0 : Dev nD) : Nat :=
  let c0_i32_1331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1324 : BitVec 32 := 27#32
  let v1307 : BitVec 32 := Scalar.addi v2 c27_i32_1324
  let c32_i32_1325 : BitVec 32 := 32#32
  let v1308 : BitVec 32 := Scalar.remsi v1307 c32_i32_1325
  let c1_i32_1330 : BitVec 32 := 1#32
  let v1310 : BitVec 32 := Scalar.muli v1308 c1_i32_1330
  let v1311 : BitVec 32 := Scalar.addi c0_i32_1331 v1310
  v1311.toNat
def k0_dev28 (d0 : Dev nD) : Nat :=
  let c0_i32_1380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1373 : BitVec 32 := 28#32
  let v1355 : BitVec 32 := Scalar.addi v2 c28_i32_1373
  let c32_i32_1374 : BitVec 32 := 32#32
  let v1356 : BitVec 32 := Scalar.remsi v1355 c32_i32_1374
  let c1_i32_1379 : BitVec 32 := 1#32
  let v1358 : BitVec 32 := Scalar.muli v1356 c1_i32_1379
  let v1359 : BitVec 32 := Scalar.addi c0_i32_1380 v1358
  v1359.toNat
def k0_dev29 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1422 : BitVec 32 := 29#32
  let v1403 : BitVec 32 := Scalar.addi v2 c29_i32_1422
  let c32_i32_1423 : BitVec 32 := 32#32
  let v1404 : BitVec 32 := Scalar.remsi v1403 c32_i32_1423
  let c1_i32_1428 : BitVec 32 := 1#32
  let v1406 : BitVec 32 := Scalar.muli v1404 c1_i32_1428
  let v1407 : BitVec 32 := Scalar.addi c0_i32_1429 v1406
  v1407.toNat
def k0_dev30 (d0 : Dev nD) : Nat :=
  let c0_i32_1478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1471 : BitVec 32 := 30#32
  let v1451 : BitVec 32 := Scalar.addi v2 c30_i32_1471
  let c32_i32_1472 : BitVec 32 := 32#32
  let v1452 : BitVec 32 := Scalar.remsi v1451 c32_i32_1472
  let c1_i32_1477 : BitVec 32 := 1#32
  let v1454 : BitVec 32 := Scalar.muli v1452 c1_i32_1477
  let v1455 : BitVec 32 := Scalar.addi c0_i32_1478 v1454
  v1455.toNat
def k0_dev31 (d0 : Dev nD) : Nat :=
  let c0_i32_1520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1513 : BitVec 32 := 31#32
  let v1491 : BitVec 32 := Scalar.addi v2 c31_i32_1513
  let c32_i32_1514 : BitVec 32 := 32#32
  let v1492 : BitVec 32 := Scalar.remsi v1491 c32_i32_1514
  let c1_i32_1519 : BitVec 32 := 1#32
  let v1494 : BitVec 32 := Scalar.muli v1492 c1_i32_1519
  let v1495 : BitVec 32 := Scalar.addi c0_i32_1520 v1494
  v1495.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Steps.lean ====
/- The body of the kernel as thirty-two steps of one form: the program text of a step at any step number, and the printed
   body as their chain. -/
module

public import proofs.«01_k».proof.Proof.Gen.KernelIdeal.Skeleton

@[expose] public section

set_option maxRecDepth 65536

noncomputable section

namespace Cert.KernelIdeal.Steps

open Idealize.ShloMosaic Idealize.SL.Sem Cert.KernelIdeal Cert.KernelIdeal.Gen

variable {F : FTy → Type} [FloatOps F]

/-! ### The views a step names -/

/-- The device's rows of the left factor, staged. -/
abbrev xM : Memref sig .tc .vmem S128x4096 .f32 := win0_0.stage 0
/-- The right factor. -/
abbrev wM : Memref sig .tc .hbm S4096x8192 .f32 := Memref.whole main_arg1
/-- The result, staged. -/
abbrev oM : Memref sig .tc .vmem S4096x256 .f32 := win0_1.stage 0
/-- The two slots a column block of the right factor is copied into. -/
abbrev bM : Memref sig .tc .vmem S2x4096x256 .f32 := Memref.whole cc0_scratch0
/-- The products to be sent, a slot a step. -/
abbrev yM : Memref sig .tc .vmem S32x128x256 .f32 := Memref.whole cc0_scratch1

theorem inbB (b : ℕ) (hb : b < 2) : ∀ a, (![b, 0, 0] : Fin 3 → Nat) a + S1x4096x256.size a ≤ S2x4096x256.size a := by
  intro a; fin_cases a <;> simp <;> omega
theorem inbY (s : ℕ) (hs : s < 32) : ∀ a, (![s, 0, 0] : Fin 3 → Nat) a + S1x128x256.size a ≤ S32x128x256.size a := by
  intro a; fin_cases a <;> simp <;> omega
theorem inbC (b : ℕ) (hb : b < 2) : ∀ a, (![b] : Fin 1 → Nat) a + S1.size a ≤ S2.size a := by
  intro a; fin_cases a; simp; omega
theorem inbS (s : ℕ) (hs : s < 32) : ∀ a, (![s] : Fin 1 → Nat) a + S1.size a ≤ S32.size a := by
  intro a; fin_cases a; simp; omega

theorem mod2 (s : ℕ) : s % 2 < 2 := Nat.mod_lt _ (by decide)

/-- The column block of the right factor that step `s` of device `d` multiplies by. -/
abbrev colM (d : Dev nD) (s : ℕ) (hs : s < 32) : Memref sig .tc .hbm S4096x256 .f32 :=
  wM.slice (Rect.unit (s := S4096x8192) (k0_off1 d (BitVec.ofNat 32 s)) S4096x256.size (k0_off1_inb d ⟨s, hs⟩)) (fun _ => rfl)

/-- Slot `b` of the two. -/
abbrev slotM (b : ℕ) (hb : b < 2) : Memref sig .tc .vmem S4096x256 .f32 :=
  (bM.slice (Rect.unit (s := S2x4096x256) ![b, 0, 0] S1x4096x256.size (inbB b hb)) (fun _ => rfl)).squeeze S4096x256 squeezes_S1x4096x256_S4096x256

/-- Slot `s` of the products. -/
abbrev prodM (s : ℕ) (hs : s < 32) : Memref sig .tc .vmem S128x256 .f32 :=
  (yM.slice (Rect.unit (s := S32x128x256) ![s, 0, 0] S1x128x256.size (inbY s hs)) (fun _ => rfl)).squeeze S128x256 squeezes_S1x128x256_S128x256

/-- Device `d`'s row block of a result, as a copy names it. -/
abbrev rowM (d : Dev nD) : Memref sig .tc .vmem S128x256 .f32 :=
  oM.slice (Rect.unit (s := S4096x256) (k0_off3 d) S128x256.size (k0_off3_inb d)) (fun _ => rfl)

/-- The semaphores: of a slot's copy, of a send, of a receipt. -/
abbrev copyS (b : ℕ) (hb : b < 2) : DmaSem sig :=
  ((cc0_scratch2.slice (Rect.unit (s := S2) ![b] S1.size (inbC b hb))).squeeze S_ squeezes_S1_S_).sem
abbrev sendS (s : ℕ) (hs : s < 32) : DmaSem sig :=
  ((cc0_scratch3.slice (Rect.unit (s := S32) ![s] S1.size (inbS s hs))).squeeze S_ squeezes_S1_S_).sem
abbrev recvS (s : ℕ) (hs : s < 32) : DmaSem sig :=
  ((cc0_scratch4.slice (Rect.unit (s := S32) ![s] S1.size (inbS s hs))).squeeze S_ squeezes_S1_S_).sem

/-- The device that step `s` of device `d` sends to, as the kernel computes it. -/
def devN (d : Dev nD) (s : ℕ) : ℕ :=
  (Scalar.addi 0#32 (Scalar.muli (Scalar.remsi (Scalar.addi (Scalar.remsi (Scalar.divsi (Dev.word d) 1#32) 32#32) (BitVec.ofNat 32 s)) 32#32) 1#32)).toNat

theorem devN_eq : ∀ (d : Dev nD) (s : Fin 32), devN d s = (d.val + s.val) % 32 := by decide +kernel

theorem devN_lt (d : Dev nD) (s : ℕ) (hs : s < 32) : devN d s < nD := by
  rw [devN_eq d ⟨s, hs⟩]; exact Nat.mod_lt _ (by decide)

/-! ### The program -/

abbrev Body (F : FTy → Type) [FloatOps F] : Type 1 := Prog (TpuEff nD τ sig (Elt F) Λ₀ .tc) PUnit

/-- The copy of step `s`'s column block, started. -/
def startCopy (d : Dev nD) (s : ℕ) (hs : s < 32) (k : Body F) : Body F :=
  Prog.op (.enqueueDma (colM d s hs) (.here (slotM (s % 2) (mod2 s))) (.dma (copyS (s % 2) (mod2 s)))
    (View.wordExact_bits rfl) ((View.wordExact_bits rfl).reshape _ _) ⟨Or.inl rfl, trivial⟩) fun _ => k

/-- The same, waited for. -/
def waitCopy (d : Dev nD) (s : ℕ) (hs : s < 32) (k : Body F) : Body F :=
  Prog.op (.waitDma2 (copyS (s % 2) (mod2 s)) (colM d s hs) (slotM (s % 2) (mod2 s))
    (View.wordExact_bits rfl) ((View.wordExact_bits rfl).reshape _ _)) fun _ => k

/-- The product of the staged rows and the column block in slot `s % 2`. -/
def loads (s : ℕ) (k : FVec F S128x256 .f32 → Body F) : Body F :=
  Prog.op (.load xM (Rect.unit (s := S128x4096) ![0, 0] S128x4096.size inb_S128x4096_S128x4096_0_0).toLoadRect (View.loadsAt_vmem h_S128x4096)) fun x =>
  Prog.op (.load bM (Rect.unit (s := S2x4096x256) ![s % 2, 0, 0] S1x4096x256.size (inbB (s % 2) (mod2 s))).toLoadRect (View.loadsAt_vmem h_S1x4096x256)) fun w =>
  k (k0_pay1 x w)

/-- The product of a step that sends: stored into its slot, sent, both ends waited for. -/
def deliver (d : Dev nD) (s : ℕ) (hs : s < 32) (p : FVec F S128x256 .f32) (k : Body F) : Body F :=
  Prog.op (.load yM (Rect.unit (s := S32x128x256) ![s, 0, 0] S1x128x256.size (inbY s hs)).toLoadRect (View.loadsAt_vmem h_S1x128x256)) fun _ =>
  Prog.op (.store yM (Rect.unit (s := S32x128x256) ![s, 0, 0] S1x128x256.size (inbY s hs)) (k0_pay3 p) Finset.univ
    (View.stores_vmem_bits_univ h_S1x128x256 rfl) (.inl rfl)) fun _ =>
  Prog.op (.enqueueDma (prodM s hs) (.remote (Dev.tc (⟨devN d s, devN_lt d s hs⟩ : Dev nD)) (rowM d) (.dma (sendS s hs))) (.dma (recvS s hs))
    ((View.wordExact_bits rfl).reshape _ _) (View.wordExact_bits rfl) ⟨⟨rfl, Or.inl rfl⟩, trivial⟩) fun _ =>
  Prog.op (.waitDma2 (sendS s hs) (rowM d) (prodM s hs) (View.wordExact_bits rfl) ((View.wordExact_bits rfl).reshape _ _)) fun _ =>
  Prog.op (.waitDma2 (recvS s hs) (prodM s hs) (rowM d) ((View.wordExact_bits rfl).reshape _ _) (View.wordExact_bits rfl)) fun _ => k

/-- The product of the first step, stored into the device's own rows. -/
def keep (d : Dev nD) (p : FVec F S128x256 .f32) (k : Body F) : Body F :=
  Prog.op (.load oM (Rect.unit (s := S4096x256) (k0_off2 d) S128x256.size (k0_off2_inb d)).toLoadRect (View.loadsAt_vmem h_S128x256)) fun _ =>
  Prog.op (.store oM (Rect.unit (s := S4096x256) (k0_off2 d) S128x256.size (k0_off2_inb d)) p Finset.univ
    (View.stores_vmem_bits_univ h_S128x256 rfl) (.inl rfl)) fun _ => k

/-- A step that has a step behind it. -/
def step (d : Dev nD) (s : ℕ) (hs : s + 1 < 32) (k : Body F) : Body F :=
  waitCopy d s (by omega) <| startCopy d (s + 1) hs <| loads s fun p => deliver d s (by omega) p k

/-- The last step. -/
def lastStep (d : Dev nD) (k : Body F) : Body F :=
  waitCopy d 31 (by decide) <| loads 31 fun p => deliver d 31 (by decide) p k

/-- The steps from `31 - n` to the last. -/
def chain (d : Dev nD) : (n : ℕ) → n < 32 → Body F
  | 0, _ => lastStep d (Prog.ret ⟨⟩)
  | n + 1, h => step d (31 - (n + 1)) (by omega) (chain d n (by omega))

/-- The whole body. -/
def body (F : FTy → Type) [FloatOps F] : Body F :=
  Prog.op .deviceId fun d =>
    startCopy d 0 (by decide) <| waitCopy d 0 (by decide) <| startCopy d 1 (by decide) <| loads 0 fun p => keep d p (chain d 30 (by decide))

theorem body_eq : cc0_body (F := F) xM (hstage0_0 0) wM (Memref.isWhole_whole _) oM (hstage0_1 0) bM (Memref.isWhole_whole _)
    yM (Memref.isWhole_whole _) cc0_scratch2 cc0_scratch3 cc0_scratch4 = body F := rfl

end Cert.KernelIdeal.Steps

end
-- ==== Proof.Protocol.lean ====
/- The protocol of the kernel: what each DMA semaphore hands to the device that waits on it.

   Device `d` has, beside the two semaphores of its staged operands, one for each slot a column block is copied into, one
   for each send and one for each receipt. All are waited on by `d` alone. The copy semaphores go through sixteen rounds
   each, step `s` being round `s / 2` of slot `s % 2`; every other semaphore is used once. The receipt semaphore of step
   `s` is credited by device `d - s`.

   The result is staged in a buffer that is made anew when its device enters the kernel. Nothing makes a device wait for
   another's entry, so a copy may reach a device that has not entered. What a device does come to know is kept in a cell
   of ghost state: a device's entry opens it, and the fact that it is open travels with the copies. -/
module

public import proofs.«01_k».proof.Proof.Steps
public import proofs.«01_k».proof.Proof.Gen.KernelIdeal.Frame
public import Mathlib.Algebra.Group.Fin.Basic

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-! ### Semaphores by what they are for -/

/-- The two staged operands, the two slots, the sends, the receipts. -/
abbrev Role : Type := Fin 2 ⊕ Fin 2 ⊕ Fin 32 ⊕ Fin 32

abbrev Role.stage (w : Fin 2) : Role := .inl w
abbrev Role.copy (b : Fin 2) : Role := .inr (.inl b)
abbrev Role.send (s : Fin 32) : Role := .inr (.inr (.inl s))
abbrev Role.recv (s : Fin 32) : Role := .inr (.inr (.inr s))

/-- Their numbers. -/
def semOf : Role → DmaSem sig
  | .inl w => ⟨w.val, by show _ < 68; omega⟩
  | .inr (.inl b) => ⟨2 + b.val, by show _ < 68; omega⟩
  | .inr (.inr (.inl s)) => ⟨4 + s.val, by show _ < 68; omega⟩
  | .inr (.inr (.inr s)) => ⟨36 + s.val, by show _ < 68; omega⟩

/-- What a semaphore is for. -/
def roleOf (k : DmaSem sig) : Role :=
  if h : k.val < 2 then .stage ⟨k.val, h⟩
  else if h : k.val < 4 then .copy ⟨k.val - 2, by omega⟩
  else if h : k.val < 36 then .send ⟨k.val - 4, by omega⟩
  else .recv ⟨k.val - 36, by have : k.val < 68 := k.isLt; omega⟩

theorem roleOf_semOf : ∀ r : Role, roleOf (semOf r) = r := by decide +kernel
theorem semOf_roleOf : ∀ k : DmaSem sig, semOf (roleOf k) = k := by decide +kernel

/-- Every semaphore of the machine is one of them. -/
def semEquiv : Role ≃ SemLoc sig where
  toFun r := .dma (semOf r)
  invFun
    | .reg s => absurd s.isLt (Nat.not_lt_zero _)
    | .dma k => roleOf k
  left_inv r := roleOf_semOf r
  right_inv
    | .reg s => absurd s.isLt (Nat.not_lt_zero _)
    | .dma k => congrArg SemLoc.dma (semOf_roleOf k)

theorem semOf_inj {r r' : Role} (h : semOf r = semOf r') : r = r' := by
  rw [← roleOf_semOf r, h, roleOf_semOf]

theorem copyS_eq (b : Fin 2) : copyS b.val b.isLt = semOf (.copy b) := by revert b; decide
theorem sendS_eq (s : Fin 32) : sendS s.val s.isLt = semOf (.send s) := by revert s; decide
theorem recvS_eq (s : Fin 32) : recvS s.val s.isLt = semOf (.recv s) := by revert s; decide

/-- Device `d`'s semaphore of a role. -/
abbrev cell (d : Dev nD) (r : Role) : GSem nD τ sig := ((d : Thread nD τ), .dma (semOf r))

/-! ### Devices along the ring -/

theorem dev_eq (d : Dev nD) (s : Fin 32) : (⟨devN d s.val, devN_lt d s.val s.isLt⟩ : Dev nD) = (d + s : Fin 32) :=
  Fin.ext (by rw [Fin.val_add]; exact devN_eq d s)

/-! ### What is computed -/

variable (m : (ℓ : Loc nD τ sig) → Buf (Elt F) ℓ)

/-- The device's rows of the left factor. -/
def X (d : Dev nD) : Vec F S128x4096 .f32 :=
  ((cfg0.win 0).blk t0_0).view.read (Elt F) (m ((d : Thread nD τ).loc main_arg0))

/-- The column block of the right factor that step `s` multiplies by. -/
def W (d : Dev nD) (s : Fin 32) : Vec F S4096x256 .f32 :=
  (colM d s.val s.isLt).view.read (Elt F) (m ((d : Thread nD τ).loc main_arg1))

/-- Their product. -/
def P (d : Dev nD) (s : Fin 32) : FVec F S128x256 .f32 :=
  matmul dot_S128x4096_S4096x256_S128x256_1_0_0_1_n_n none (shapeCast S128x4096 (X m d) shapeCasts_S128x4096_S128x4096)
    (W m d s) (constant S128x256 .f32 0x00000000#32)

/-- Row block `c` of a result. -/
def rowBlock (c : Dev nD) (f : Vec F S4096x256 .f32) : Vec F S128x256 .f32 :=
  fun i => f ((Rect.unit (s := S4096x256) (k0_off3 c) S128x256.size (k0_off3_inb c)).emb i)

/-- What is known of the result at the end: its own row block, and those of the devices whose copies are sent after this
    device is known to have entered. -/
def Good (d : Dev nD) (f : Vec F S4096x256 .f32) : Prop :=
  ∀ s : Fin 32, s.val = 0 ∨ 8 ≤ s.val → rowBlock (d - s : Fin 32) f = P m (d - s : Fin 32) s

/-! ### The schedule -/

/-- How often a semaphore is waited on. -/
def rounds : Role → ℕ
  | .inl _ => 1
  | .inr (.inl _) => 16
  | .inr (.inr (.inl s)) => if s.val = 0 then 0 else 1
  | .inr (.inr (.inr s)) => if s.val = 0 then 0 else 1

/-- What a copy onto it credits. -/
def units : Role → ℕ
  | .inl w => if w.val = 0 then xM.view.dmaCredit else ((cfg0.win 1).blk t0_0).view.dmaCredit
  | .inr (.inl _) => (slotM 0 (by decide)).view.dmaCredit
  | .inr (.inr (.inl _)) => (rowM 0).view.dmaCredit
  | .inr (.inr (.inr _)) => (rowM 0).view.dmaCredit

theorem units_pos (r : Role) : 0 < units r := by
  rcases r with w | b | s | s <;> simp only [units] <;> (try split) <;> refine View.dmaCredit_pos _ ?_ <;> decide

/-- The rounds library's place in the machine's algebra. -/
abbrev EM : Emb (UR sig nD τ) 𝕄 := emb₁

/-- The ghost cell whose opening records that the device has entered: its receipt semaphore of step zero, which the
    kernel does not use. -/
abbrev door (d : Dev nD) : GSem nD τ sig := cell d (.recv 0)

/-- Device `d` has entered. -/
def entered (d : Dev nD) : sProp 𝕄 := reached (EM (F := F)) (door d) 0

/-- The devices among the `n` behind `c`, and `c` itself, have entered. -/
def known (c : Dev nD) (n : ℕ) : sProp 𝕄 :=
  bigSep (Finset.univ.filter fun e : Dev nD => ((c - e : Fin 32)).val ≤ n) fun e => entered (F := F) e

/-- How far back is known at step `s`. -/
def tri (s : ℕ) : ℕ := s * (s - 1) / 2

/-- The right of device `c` to write its row block of device `d`'s result. -/
def tok (c d : Dev nD) : sProp 𝕄 := dutyTok (EM (F := F)) (cell d (.recv c)) 1 ()

/-- What a receipt hands over: the row block written, of a copy sent after the entry; the right to write it back, of one
    that may have been early. -/
def got (c d : Dev nD) (s : Fin 32) : sProp 𝕄 :=
  if s.val < 8 then tok c d
  else iprop(∃ f, ⌜(rowM c).view.read (Elt F) f = P m c s⌝ ∗ (rowM c).view.loc (d : Thread nD τ) ↦[(rowM c).view.set]{fullShare} f)

/-- What the semaphores hand over. -/
def pay (d : Dev nD) (r : ℕ) : Role → sProp 𝕄
  | .inl w => if w.val = 0 then iprop((d : Thread nD τ).loc cc0_stg0_0 ↦{fullShare} (X m d : Buf (Elt F) ((d : Thread nD τ).loc cc0_stg0_0)))
      else iprop((∃ f, (d : Thread nD τ).loc cc0_stg1_0 ↦{fullShare} f)
        ∗ ∃ f : Buf (Elt F) ((d : Thread nD τ).loc main_v1), ⌜Good m d f⌝ ∗ (d : Thread nD τ).loc main_v1 ↦{fullShare} f)
  | .inr (.inl b) => iprop(∃ f, ⌜(slotM b.val b.isLt).view.read (Elt F) f = W m d (Fin.ofNat 32 (2 * r + b.val))⌝
      ∗ (slotM b.val b.isLt).view.loc (d : Thread nD τ) ↦[(slotM b.val b.isLt).view.set]{fullShare} f)
  | .inr (.inr (.inl s)) => iprop(∃ f, (prodM s.val s.isLt).view.loc (d : Thread nD τ) ↦[(prodM s.val s.isLt).view.set]{fullShare} f)
  | .inr (.inr (.inr s)) => iprop(known (F := F) (d - s : Fin 32) (tri s.val) ∗ got m (d - s : Fin 32) d s)

/-- The schedule. -/
def Rd : Schedule (GSem nD τ sig) Unit 𝕄 where
  duties g r := match g with
    | ((_, .tc), .dma k) => if r < rounds (roleOf k) then {()} else ∅
    | _ => ∅
  amount g _ _ := match g with
    | ((_, .tc), .dma k) => units (roleOf k)
    | _ => 1
  payload g r _ := match g with
    | ((d, .tc), .dma k) => pay m d r (roleOf k)
    | _ => iprop(emp)
  amount_pos g r x h := by
    split
    · exact units_pos _
    · exact Nat.one_pos

theorem Rd_duties (d : Dev nD) (q : Role) (r : ℕ) : (Rd m).duties (cell d q) r = if r < rounds q then {()} else ∅ := by
  show (if r < rounds (roleOf (semOf q)) then _ else _) = _; rw [roleOf_semOf]
theorem Rd_amount (d : Dev nD) (q : Role) (r : ℕ) (x : Unit) : (Rd m).amount (cell d q) r x = units q := by
  show units (roleOf (semOf q)) = _; rw [roleOf_semOf]
theorem Rd_payload (d : Dev nD) (q : Role) (r : ℕ) (x : Unit) : (Rd m).payload (cell d q) r x = pay m d r q := by
  show pay m d r (roleOf (semOf q)) = _; rw [roleOf_semOf]

theorem Rd_mem (d : Dev nD) (q : Role) (r : ℕ) (h : r < rounds q) : () ∈ (Rd m).duties (cell d q) r := by
  rw [Rd_duties, if_pos h]; exact Finset.mem_singleton_self _

theorem Rd_expect (d : Dev nD) (q : Role) (r : ℕ) (h : r < rounds q) : (Rd m).expect (cell d q) r = units q := by
  unfold Schedule.expect Schedule.amountOf; rw [Rd_duties, if_pos h, Finset.sum_singleton, Rd_amount]

/-- What guards the staging of device `d`'s result against copies: before the device enters, the whole buffer; after,
    each other device's row block or its right to write it. -/
def guard (d : Dev nD) : sProp 𝕄 :=
  iprop((unopenedAuth (EM (F := F)) (door d) ∗ ∃ f, (d : Thread nD τ).loc cc0_stg1_0 ↦{fullShare} f)
    ∨ (roundAuth (EM (F := F)) (door d) 0 ∅ 0
      ∗ bigSep (Finset.univ.erase d) fun c : Dev nD =>
          iprop((∃ f, (rowM c).view.loc (d : Thread nD τ) ↦[(rowM c).view.set]{fullShare} f) ∨ tok (F := F) c d)))

end Cert.KernelIdeal.Steps

end
-- ==== Proof.Guard.lean ====
/- The guard of a result's staging: what a device may do to another's before and after that one has entered. -/
module

public import proofs.«01_k».proof.Proof.Protocol

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ### What is known stays known, and can be kept in an invariant -/

instance entered_persistent (d : Dev nD) : BI.Persistent (entered (F := F) d) := by unfold entered; infer_instance
instance known_persistent (c : Dev nD) (n : ℕ) : BI.Persistent (known (F := F) c n) := by unfold known; infer_instance

instance entered_storable (d : Dev nD) : Storable (upEmb : UEmb _ 𝕄) (entered (F := F) d) := by unfold entered; infer_instance
instance known_storable (c : Dev nD) (n : ℕ) : Storable (upEmb : UEmb _ 𝕄) (known (F := F) c n) := by unfold known; infer_instance
instance tok_storable (c d : Dev nD) : Storable (upEmb : UEmb _ 𝕄) (tok (F := F) c d) := by unfold tok; infer_instance
instance got_storable (c d : Dev nD) (s : Fin 32) : Storable (upEmb : UEmb _ 𝕄) (got m c d s) := by
  unfold got; split <;> infer_instance
instance pay_storable (d : Dev nD) (r : ℕ) (q : Role) : Storable (upEmb : UEmb _ 𝕄) (pay m d r q) := by
  rcases q with w | b | s | s <;> simp only [pay] <;> (try split) <;> infer_instance
instance payload_storable (g : GSem nD τ sig) (r : ℕ) (x : Unit) : Storable (upEmb : UEmb _ 𝕄) ((Rd m).payload g r x) := by
  simp only [Rd]; split <;> infer_instance
instance guard_storable (d : Dev nD) : Storable (upEmb : UEmb _ 𝕄) (guard (F := F) d) := by unfold guard; infer_instance

theorem known_take (c e : Dev nD) (n : ℕ) (h : ((c - e : Fin 32)).val ≤ n) : known (F := F) c n ⊢ entered e := by
  unfold known
  exact BI.bigSep_elim (i := e) (Finset.mem_filter.mpr ⟨Finset.mem_univ _, h⟩)

theorem known_join (c c' c'' : Dev nD) (n n' n'' : ℕ)
    (h : ∀ e : Fin 32, (c'' - e).val ≤ n'' → (c - e).val ≤ n ∨ (c' - e).val ≤ n') :
    iprop(known (F := F) c n ∗ known c' n') ⊢ known c'' n'' := by
  unfold known
  refine (BI.bigSep_sep_union _ _).trans (BI.bigSep_subset fun e he => ?_)
  rw [Finset.mem_union, Finset.mem_filter, Finset.mem_filter]
  exact (h e (Finset.mem_filter.mp he).2).imp (fun h => ⟨Finset.mem_univ _, h⟩) fun h => ⟨Finset.mem_univ _, h⟩

theorem known_intro (c : Dev nD) : entered (F := F) c ⊢ known c 0 := by
  unfold known
  have h : (Finset.univ.filter fun e : Dev nD => ((c - e : Fin 32)).val ≤ 0) = {c} := by revert c; decide
  rw [h, BI.bigSep_singleton]

/-- What a receipt adds to what is known: at step `s` the sender is `s` devices behind, and knows as much of those behind
    it as this device does of those behind itself. -/
theorem known_step (d : Dev nD) (s : Fin 32) (hs : s.val ≠ 0) :
    iprop(known (F := F) d (tri s.val) ∗ known (d - s : Fin 32) (tri s.val)) ⊢ known d (tri (s.val + 1)) := by
  refine known_join _ _ _ _ _ _ fun e he => ?_
  have key : ∀ s : Fin 32, s.val ≠ 0 → ∀ x : Fin 32, x.val ≤ tri (s.val + 1) → x.val ≤ tri s.val ∨ (x - s).val ≤ tri s.val := by
    decide +kernel
  have h := key s hs (d - e : Fin 32) he
  rwa [show (d - s - e : Fin 32) = d - e - s from sub_right_comm (α := Fin 32) d s e]

/-- From step eight on, the device sent to is among those known to have entered. -/
theorem known_target (d : Dev nD) (s : Fin 32) (hs : 8 ≤ s.val) : known (F := F) d (tri s.val) ⊢ entered (d + s : Fin 32) := by
  refine known_take _ _ _ ?_
  have key : ∀ s : Fin 32, 8 ≤ s.val → (0 - s : Fin 32).val ≤ tri s.val := by decide +kernel
  have h := key s hs
  rwa [show (d - (d + s) : Fin 32) = 0 - s from (sub_add_cancel_left (G := Fin 32) d s).trans (zero_sub (G := Fin 32) s).symm]

/-! ### The guard -/

theorem bigSep_at {I : Type} [DecidableEq I] {s : Finset I} {i : I} (hi : i ∈ s) (Φ : I → sProp 𝕄) :
    bigSep s Φ = iprop(Φ i ∗ bigSep (s.erase i) Φ) := BI.bigSep_erase hi

theorem tok_tok_false (c d : Dev nD) : iprop(tok (F := F) c d ∗ tok c d) ⊢ (False : sProp 𝕄) := dutyTok_dutyTok_false EM
theorem unopened_entered_false (d : Dev nD) : iprop(unopenedAuth (EM (F := F)) (door d) ∗ entered d) ⊢ (False : sProp 𝕄) :=
  unopenedAuth_reached_false EM

/-- Once the device is known to have entered, the right to write a row block is the row block. -/
theorem guard_swap (ν : ℕ) (c d : Dev nD) (h : c ≠ d) :
    iprop(inv ν (guard (F := F) d) ∗ entered d ∗ tok c d)
      ⊢ (iprop(|={Set.univ}=> ∃ f, (rowM c).view.loc (d : Thread nD τ) ↦[(rowM c).view.set]{fullShare} f) : sProp 𝕄) := by
  iintro ⟨#Hi, #He, Ht⟩
  imod (inv_acc (Set.mem_univ ν)) $$ Hi with ⟨HG, Hclose⟩
  simp only [guard]
  icases HG with (⟨Hu, -⟩ | ⟨Ha, Hb⟩)
  · iexfalso
    iapply (unopened_entered_false d)
    isplitl [Hu]; · iexact Hu
    iexact He
  · ihave ⟨Hc, Hb⟩ := (Entails.of_eq (bigSep_at (Finset.mem_erase.mpr ⟨h, Finset.mem_univ c⟩) _)) $$ Hb
    icases Hc with (Hc | Ht')
    · imod Hclose $$ [Ha Hb Ht] with -
      · iright
        isplitl [Ha]; · iexact Ha
        iapply (Entails.of_eq (bigSep_at (Finset.mem_erase.mpr ⟨h, Finset.mem_univ c⟩) _).symm)
        isplitl [Ht]; · iright; iexact Ht
        iexact Hb
      imodintro
      iexact Hc
    · iexfalso
      iapply (tok_tok_false c d)
      isplitl [Ht]; · iexact Ht
      iexact Ht'

/-- Writing a row block of another device's result by right, the device entered or not. -/
theorem guard_write (ν : ℕ) (c d : Dev nD) (h : c ≠ d) (w : S128x256.Idx → Elt F .f32) :
    iprop(inv ν (guard (F := F) d) ∗ tok c d) ⊢ (writeUpdate (d : Thread nD τ) (rowM c).view w (tok c d) : sProp 𝕄) := by
  rw [writeUpdate, writeUpdateFrom_def]
  iintro ⟨#Hi, Ht⟩
  iexists (fun _ => tok c d)
  isplitl [Ht]; · iexact Ht
  isplitr
  · rw [writeSteps_def]
    imodintro
    iintro %M %M' Ht
    imod (inv_acc (Set.mem_univ ν)) $$ Hi with ⟨HG, Hclose⟩
    simp only [guard]
    icases HG with (⟨Hu, ⟨%f, Hf⟩⟩ | ⟨Ha, Hb⟩)
    · imodintro
      rw [storeSpec_apply]
      iexists Finset.univ, f
      isplitl [Hf]; · iexact Hf
      isplitr; · ipureintro; exact Finset.subset_univ _
      iintro Hf
      imod Hclose $$ [Hu Hf] with -
      · ileft
        isplitl [Hu]; · iexact Hu
        iexists _; iexact Hf
      imodintro
      iexact Ht
    · ihave ⟨Hc, Hb⟩ := (Entails.of_eq (bigSep_at (Finset.mem_erase.mpr ⟨h, Finset.mem_univ c⟩) _)) $$ Hb
      icases Hc with (⟨%f, Hf⟩ | Ht')
      · imodintro
        rw [storeSpec_apply]
        iexists (rowM c).view.set, f
        isplitl [Hf]; · iexact Hf
        isplitr; · ipureintro; exact View.setOn_subset_set _ _
        iintro Hf
        imod Hclose $$ [Ha Hb Hf] with -
        · iright
          isplitl [Ha]; · iexact Ha
          iapply (Entails.of_eq (bigSep_at (Finset.mem_erase.mpr ⟨h, Finset.mem_univ c⟩) _).symm)
          isplitl [Hf]; · ileft; iexists _; iexact Hf
          iexact Hb
        imodintro
        iexact Ht
      · iexfalso
        iapply (tok_tok_false c d)
        isplitl [Ht]; · iexact Ht
        iexact Ht'
  · iintro Ht; iexact Ht

end Cert.KernelIdeal.Steps

end
-- ==== Proof.Ledger.lean ====
/- What a device owes the others, the order of its waits, and what every device may use throughout. -/
module

public import proofs.«01_k».proof.Proof.Guard
public import Idealize.ShloMosaic.Harness.Basic

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ### Debts: every device owes a credit to the receipt of each later step -/

/-- The sends still to be made at step `s`. -/
def later (s : ℕ) : Finset (Fin 32) := Finset.univ.filter fun t => s ≤ t.val ∧ t.val ≠ 0

/-- What device `d` owes at step `s`. -/
def owe (d : Dev nD) (s : ℕ) : CellTallies nD τ sig Unit :=
  ∑ t ∈ later s, tallyAt (cell (d + t : Fin 32) (.recv t)) () (units (.recv t))

theorem later_succ (s : Fin 32) (hs : s.val ≠ 0) : later s.val = insert s (later (s.val + 1)) := by
  ext t
  simp only [later, Finset.mem_insert, Finset.mem_filter, Finset.mem_univ, true_and, Fin.ext_iff]
  omega

theorem owe_succ (d : Dev nD) (s : Fin 32) (hs : s.val ≠ 0) :
    owe d s.val = owe d (s.val + 1) + tallyAt (cell (d + s : Fin 32) (.recv s)) () (units (.recv s)) := by
  unfold owe
  rw [later_succ s hs, Finset.sum_insert (by simp [later]), add_comm]

theorem owe_last (d : Dev nD) : owe d 32 = 0 := by
  unfold owe
  rw [show later 32 = ∅ by decide, Finset.sum_empty]

theorem owe_one (d : Dev nD) : owe d 1 = owe d 0 := by
  unfold owe
  rw [show later 1 = later 0 by decide]

theorem owe_pos (d : Dev nD) (s : ℕ) (g : GSem nD τ sig) (i : Unit) (h : 0 < owe d s g i) :
    ∃ t : Fin 32, s ≤ t.val ∧ t.val ≠ 0 ∧ g = cell (d + t : Fin 32) (.recv t) := by
  unfold owe at h
  rw [Finset.sum_apply, Finsupp.finset_sum_apply] at h
  obtain ⟨t, ht, hp⟩ := Finset.exists_ne_zero_of_sum_ne_zero (Nat.pos_iff_ne_zero.mp h)
  have h' := (Finset.mem_filter.mp ht).2
  rw [tallyAt_apply] at hp
  by_cases hc : g = cell (d + t : Fin 32) (.recv t) ∧ i = ()
  · exact ⟨t, h'.1, h'.2, hc.1⟩
  · exact absurd (if_neg hc) hp

/-- A receipt is waited for after every other wait of its step, and before those of the later steps. -/
def rank : Role → ℕ
  | .inr (.inr (.inr s)) => s.val + 1
  | _ => 0

def lev (g : GSem nD τ sig) (_ : Unit) : ℕ :=
  match g.2 with
  | .dma k => rank (roleOf k)
  | _ => 0

theorem lev_cell (d : Dev nD) (q : Role) : lev (cell d q) () = rank q := by
  show rank (roleOf (semOf q)) = _; rw [roleOf_semOf]

abbrev levs : sProp 𝕄 := levAts (fun g => if g.1.2 = .tc then Finset.univ else ∅) lev

theorem mayWait (d : Dev nD) (s : ℕ) (q : Role) (h : rank q ≤ s) :
    (levs (F := F)) ⊢ MayWait (d : Thread nD τ) (.dma (semOf q)) () (owe d s) :=
  Smoke.MayOwe.of_cut_tc s (fun _ _ => Finset.mem_univ _) (fun _ _ _ => Finset.mem_univ _)
    (fun g i h => by obtain ⟨t, -, -, rfl⟩ := owe_pos d s g i h; rfl)
    (fun p hp => by
      obtain rfl := Finset.mem_singleton.mp hp
      exact (lev_cell d q).le.trans h)
    (fun g i h => by
      obtain ⟨t, ht, -, rfl⟩ := owe_pos d s g i h
      obtain ⟨⟩ := i
      rw [lev_cell]; exact Nat.lt_succ_of_le ht)

/-! ### What every device may use throughout -/

/-- The semaphores that are waited on. -/
def live : Finset (Dev nD × Role) := Finset.univ.filter fun p => p.2 ≠ .recv 0

def ctx (κ : Dev nD × Role → ℕ) (ν : Dev nD → ℕ) : sProp 𝕄 :=
  iprop((bigSep live fun p => cellInv EM (Rd m) (κ p) (cell p.1 p.2))
    ∗ (bigSep live fun p => reached EM (cell p.1 p.2) 0)
    ∗ (bigSep Finset.univ fun d : Dev nD => inv (ν d) (guard d))
    ∗ levs)

instance ctx_persistent (κ : Dev nD × Role → ℕ) (ν : Dev nD → ℕ) : BI.Persistent (ctx m κ ν) := by unfold ctx; infer_instance

variable {κ : Dev nD × Role → ℕ} {ν : Dev nD → ℕ}

theorem live_mem (d : Dev nD) (q : Role) (h : q ≠ .recv 0) : (d, q) ∈ live := Finset.mem_filter.mpr ⟨Finset.mem_univ (d, q), h⟩

theorem ctx_cell (d : Dev nD) (q : Role) (h : q ≠ .recv 0) : ctx m κ ν ⊢ cellInv EM (Rd m) (κ (d, q)) (cell d q) := by
  refine BIBase.Entails.trans ?_ (BI.bigSep_elim (Φ := fun p : Dev nD × Role => cellInv EM (Rd m) (κ p) (cell p.1 p.2)) (live_mem d q h))
  unfold ctx
  iintro ⟨H, -, -, -⟩
  iexact H

theorem ctx_reached (d : Dev nD) (q : Role) (h : q ≠ .recv 0) : ctx m κ ν ⊢ reached EM (cell d q) 0 := by
  refine BIBase.Entails.trans ?_ (BI.bigSep_elim (Φ := fun p : Dev nD × Role => (reached EM (cell p.1 p.2) 0 : sProp 𝕄)) (live_mem d q h))
  unfold ctx
  iintro ⟨-, H, -, -⟩
  iexact H

theorem ctx_guard (d : Dev nD) : ctx m κ ν ⊢ inv (ν d) (guard d) := by
  refine BIBase.Entails.trans ?_ (BI.bigSep_elim (Φ := fun d : Dev nD => (inv (ν d) (guard d) : sProp 𝕄)) (Finset.mem_univ d))
  unfold ctx
  iintro ⟨-, -, H, -⟩
  iexact H

theorem ctx_levs : ctx m κ ν ⊢ levs := by
  unfold ctx
  iintro ⟨-, -, -, H⟩
  iexact H

end Cert.KernelIdeal.Steps

end
-- ==== Proof.Moves.lean ====
/- The copies of the column blocks, and what a step computes. -/
module

public import proofs.«01_k».proof.Proof.Ledger
public import Idealize.ShloMosaic.Lib.Pipeline.Value

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ### The slots of the column blocks -/

variable {κ : Dev nD × Role → ℕ} {ν : Dev nD → ℕ}

/-- The slot a step uses, and the round of its semaphore. -/
abbrev par (s : Fin 32) : Fin 2 := ⟨s.val % 2, mod2 s.val⟩

theorem ofNat_par (s : Fin 32) : Fin.ofNat 32 (2 * (s.val / 2) + (par s).val) = s := by
  apply Fin.ext
  show (2 * (s.val / 2) + s.val % 2) % 32 = s.val
  omega

theorem half_lt (s : Fin 32) : s.val / 2 < rounds (.copy (par s)) := by
  show s.val / 2 < 16
  omega

/-- A slot, at some contents. -/
def slotAny (d : Dev nD) (b : Fin 2) : sProp 𝕄 :=
  iprop(∃ f, (slotM b.val b.isLt).view.loc (d : Thread nD τ) ↦[(slotM b.val b.isLt).view.set]{fullShare} f)

/-- The slot of step `s`, holding its column block. -/
def slotFull (d : Dev nD) (s : Fin 32) : sProp 𝕄 :=
  iprop(∃ f, ⌜(slotM (par s).val (par s).isLt).view.read (Elt F) f = W m d s⌝
    ∗ (slotM (par s).val (par s).isLt).view.loc (d : Thread nD τ) ↦[(slotM (par s).val (par s).isLt).view.set]{fullShare} f)

theorem pay_copy (d : Dev nD) (s : Fin 32) : pay m d (s.val / 2) (.copy (par s)) = slotFull m d s := by
  show iprop(∃ f, ⌜_ = W m d (Fin.ofNat 32 (2 * (s.val / 2) + (par s).val))⌝ ∗ _) = _
  rw [ofNat_par s]; rfl

theorem slotFull_any (d : Dev nD) (s : Fin 32) : slotFull m d s ⊢ slotAny d (par s) := by
  unfold slotFull slotAny
  iintro ⟨%f, -, H⟩
  iexists f; iexact H

/-- A share of the right factor. -/
def wShare (d : Dev nD) : sProp 𝕄 :=
  iprop(∃ q : PosShare TreeShare, (d : Thread nD τ).loc main_arg1 ↦{q} m ((d : Thread nD τ).loc main_arg1))

theorem wShare_split (d : Dev nD) : wShare m d ⊢ iprop(wShare m d ∗ ∃ q : PosShare TreeShare,
    (d : Thread nD τ).loc main_arg1 ↦{q} m ((d : Thread nD τ).loc main_arg1)) := by
  unfold wShare
  iintro ⟨%q, Hw⟩
  ihave Hw := (pointsTo_share (PosShare.mem_left_op_right q)).1 $$ Hw
  icases Hw with ⟨H₁, H₂⟩
  isplitl [H₁]
  · iexists _; iexact H₁
  · iexists _; iexact H₂

theorem startCopy_eq (d : Dev nD) (s : ℕ) (hs : s < 32) (k : Body F) (sem : DmaSem sig) (h : copyS (s % 2) (mod2 s) = sem) :
    startCopy d s hs k = Prog.op (.enqueueDma (colM d s hs) (.here (slotM (s % 2) (mod2 s))) (.dma sem)
      (View.wordExact_bits rfl) ((View.wordExact_bits rfl).reshape _ _) ⟨Or.inl rfl, trivial⟩) fun _ => k := by
  subst h; rfl

theorem startCopy_wp (𝒱 : Variants) (bd : Option 𝒱.V) {Q : PUnit → sProp 𝕄} (d : Dev nD) (s : Fin 32) (k : Body F) :
    iprop(ctx m κ ν ∗ wShare m d ∗ slotAny d (par s) ∗ dutyTok EM (cell d (.copy (par s))) (s.val / 2) ()
        ∗ reached EM (cell d (.copy (par s))) (s.val / 2))
      ⊢ iprop((wShare m d ∗ cred (tallyAt (cell d (.copy (par s))) () (units (.copy (par s)))) -∗ wp frame (wpE (defs₀ (F := F)) 𝒱 d bd) Set.univ k Q)
          -∗ wp frame (wpE (defs₀ (F := F)) 𝒱 d bd) Set.univ (startCopy d s.val s.isLt k) Q) := by
  unfold slotAny
  iintro ⟨#Hc, Hw, ⟨%f, Hs⟩, Ht, Hr⟩ Hk
  ihave ⟨Hw, ⟨%q, Hw'⟩⟩ := (wShare_split m d) $$ Hw
  rw [startCopy_eq d s.val s.isLt k (semOf (.copy (par s))) (copyS_eq (par s))]
  ihave Hw' := (pointsTo_split_subset (Finset.subset_univ (colM d s.val s.isLt).view.set)).1 $$ Hw'
  icases Hw' with ⟨Hw', -⟩
  have hpay : iprop(((slotM (s.val % 2) (mod2 s.val)).view.loc (d : Thread nD τ) ↦[(slotM (s.val % 2) (mod2 s.val)).view.set]{fullShare}
        ((slotM (s.val % 2) (mod2 s.val)).view.write (Elt F) f (W m d s) Finset.univ))
      ∗ ((colM d s.val s.isLt).view.loc (d : Thread nD τ) ↦[(colM d s.val s.isLt).view.set]{q} m ((d : Thread nD τ).loc main_arg1)))
      ⊢ (Rd m).payload (cell d (.copy (par s))) (s.val / 2) () := by
    rw [Rd_payload, pay_copy]
    unfold slotFull
    iintro ⟨H, -⟩
    iexists (slotM (s.val % 2) (mod2 s.val)).view.write (Elt F) f (W m d s) Finset.univ
    isplitr
    · ipureintro
      exact View.read_write_univ _ _
    · iexact H
  iapply (wp_copy_pointsTo 𝒱 EM (Rd m) (d : Thread nD τ) bd (src := colM d s.val s.isLt) (dst := slotM (s.val % 2) (mod2 s.val))
    (Rd_mem m d (.copy (par s)) _ (half_lt s)) () (units (.copy (par s))) rfl (Rd_amount m d _ _ _) hpay) $$ [Hw' Hs Ht Hr]
  · isplitr
    · iapply (ctx_cell m d (.copy (par s)) (by simp)); iexact Hc
    isplitl [Hw']; · iexact Hw'
    isplitl [Hs]; · iexact Hs
    isplitl [Ht]; · iexact Ht
    iexact Hr
  iintro Hcr
  iapply Hk
  isplitl [Hw]; · iexact Hw
  iexact Hcr

/-- A wait on one of the semaphores, in any program of the device: what the copy onto it hands over is received. -/
theorem await_wp {Λ : Labels} (defs : Defs nD τ sig (Elt F) Λ) (𝒱 : Variants) (bd : Option 𝒱.V) {α : Type} {Q : α → sProp 𝕄}
    (d : Dev nD) (q : Role) (hq : q ≠ .recv 0) (r : ℕ) (hr : r < rounds q) (n : ℕ) (hn : rank q ≤ n)
    {sp sp' : Space} {s s' : Shape} {e : EltTy} {src : Memref sig .tc sp s e} {dst : Memref sig .tc sp' s' e}
    {hsrc : src.view.WordExact} {hdst : dst.view.WordExact} (hN : dst.view.dmaCredit = units q)
    {k : PUnit → Prog (TpuEff nD τ sig (Elt F) Λ .tc) α} {W₀ : Waits sig Unit} :
    iprop(ctx m κ ν ∗ cred (tallyAt (cell d q) () (units q)) ∗ owes (d : Thread nD τ) (owe d n) W₀ ∗ atPos EM (cell d q) r ∅ 0)
      ⊢ iprop((∀ W₁, owes (d : Thread nD τ) (owe d n) W₁ ∗ atPos EM (cell d q) (r + 1) ∅ 0
            ∗ reached EM (cell d q) (r + 1) ∗ pay m d r q
            -∗ wp frame (wpE defs 𝒱 d bd) Set.univ (k ⟨⟩) Q)
          -∗ wp frame (wpE defs 𝒱 d bd) Set.univ (.op (.waitDma2 (semOf q) src dst hsrc hdst) k) Q) := by
  iintro ⟨#Hc, Hcr, Ho, Ha⟩ Hk
  iapply (wp_wait_rest_token 𝒱 EM (Rd m) (d : Thread nD τ) bd (κ := κ (d, q)) (sm := .dma (semOf q))
    (k' := units q) (R := r) (m := 0) (T := ∅) (w := .waitDma2 (semOf q) src dst hsrc hdst)
    (fun K => hN ▸ wpE_waitDma2_eq 𝒱 (d : Thread nD τ) bd Set.univ K) (Set.mem_univ _) () (by
      rw [Nat.zero_add]; exact (Rd_expect m d q _ hr).symm)) $$ [Hcr Ho Ha]
  · isplitr
    · iapply (ctx_cell m d q hq); iexact Hc
    isplitl [Hcr]; · iexact Hcr
    isplitl [Ho]; · iexact Ho
    isplitr
    · iapply (mayWait d n q hn); iapply (ctx_levs m); iexact Hc
    iexact Ha
  iintro ⟨Ho, Ha, Hr, Hp⟩
  iapply Hk
  isplitl [Ho]; · iexact Ho
  isplitl [Ha]; · iexact Ha
  isplitl [Hr]; · iexact Hr
  have he : bigSep ((Rd m).duties (cell d q) r \ ∅) (fun x => (Rd m).payload (cell d q) r x) = pay m d r q := by
    rw [Rd_duties, if_pos hr, Finset.sdiff_empty, BI.bigSep_singleton, Rd_payload]
  iapply (Entails.of_eq he)
  iexact Hp

theorem waitCopy_wp (𝒱 : Variants) (bd : Option 𝒱.V) {Q : PUnit → sProp 𝕄} (d : Dev nD) (s : Fin 32) (k : Body F) (n : ℕ) (W₀ : Waits sig Unit) :
    iprop(ctx m κ ν ∗ cred (tallyAt (cell d (.copy (par s))) () (units (.copy (par s)))) ∗ owes (d : Thread nD τ) (owe d n) W₀
        ∗ atPos EM (cell d (.copy (par s))) (s.val / 2) ∅ 0)
      ⊢ iprop((∀ W₁, owes (d : Thread nD τ) (owe d n) W₁ ∗ atPos EM (cell d (.copy (par s))) (s.val / 2 + 1) ∅ 0
            ∗ reached EM (cell d (.copy (par s))) (s.val / 2 + 1) ∗ slotFull m d s
            -∗ wp frame (wpE (defs₀ (F := F)) 𝒱 d bd) Set.univ k Q)
          -∗ wp frame (wpE (defs₀ (F := F)) 𝒱 d bd) Set.univ (waitCopy d s.val s.isLt k) Q) := by
  unfold waitCopy
  rw [show copyS (s.val % 2) (mod2 s.val) = semOf (.copy (par s)) from copyS_eq (par s), ← pay_copy]
  exact await_wp m defs₀ 𝒱 bd (src := colM d s.val s.isLt) (dst := slotM (s.val % 2) (mod2 s.val)) (k := fun _ => k) d (.copy (par s)) (by simp) (s.val / 2) (half_lt s) n (Nat.zero_le _) rfl

/-! ### What a step computes -/

/-- The staged rows of the left factor. -/
def xFull (d : Dev nD) : sProp 𝕄 :=
  iprop((d : Thread nD τ).loc cc0_stg0_0 ↦{fullShare} (X m d : Buf (Elt F) ((d : Thread nD τ).loc cc0_stg0_0)))

theorem pay1_eq (d : Dev nD) (s : Fin 32) (f : (slotM (s.val % 2) (mod2 s.val)).view.ty.Contents (Elt F))
    (hf : (slotM (s.val % 2) (mod2 s.val)).view.read (Elt F) f = W m d s)
    (w : Vec F S1x4096x256 .f32)
    (hw : w = bM.view.readAt (Elt F) (Rect.unit (s := S2x4096x256) ![s.val % 2, 0, 0] S1x4096x256.size (inbB (s.val % 2) (mod2 s.val))).toLoadRect f) :
    k0_pay1 (X m d) w = P m d s := by
  have h := Memref.read_squeeze_slice (Val := Elt F) bM
    (Rect.unit (s := S2x4096x256) ![s.val % 2, 0, 0] S1x4096x256.size (inbB (s.val % 2) (mod2 s.val))) (fun _ => rfl) squeezes_S1x4096x256_S4096x256 shapeCasts_S1x4096x256_S4096x256 f
  unfold k0_pay1 P
  rw [← hf, hw]
  rfl

theorem loads_wp (𝒱 : Variants) (bd : Option 𝒱.V) {Q : PUnit → sProp 𝕄} (d : Dev nD) (s : Fin 32) (k : FVec F S128x256 .f32 → Body F) :
    iprop(xFull m d ∗ slotFull m d s)
      ⊢ iprop((xFull m d ∗ slotAny d (par s) -∗ wp frame (wpE (defs₀ (F := F)) 𝒱 d bd) Set.univ (k (P m d s)) Q)
          -∗ wp frame (wpE (defs₀ (F := F)) 𝒱 d bd) Set.univ (loads s.val k) Q) := by
  unfold slotFull slotAny xFull
  iintro ⟨Hx, ⟨%f, %hf, Hs⟩⟩ Hk
  unfold loads
  iapply (wp_load 𝒱 (d : Thread nD τ) bd Set.univ (m := xM) (S := Finset.univ) (Finset.subset_univ _)) $$ Hx
  iintro Hx
  rw [show xM.view.readAt (Elt F) (Rect.unit (s := S128x4096) ![0, 0] S128x4096.size inb_S128x4096_S128x4096_0_0).toLoadRect (X m d) = X m d from
    Memref.readAt_unit_zero (Elt F) _ (by funext a; fin_cases a <;> rfl) _ _]
  iapply (wp_load_rect 𝒱 (d : Thread nD τ) bd Set.univ (m := bM)
    (r := Rect.unit (s := S2x4096x256) ![s.val % 2, 0, 0] S1x4096x256.size (inbB (s.val % 2) (mod2 s.val)))
    (S := (slotM (s.val % 2) (mod2 s.val)).view.set) (by rw [View.set_reshape])) $$ Hs
  iintro Hs
  rw [pay1_eq m d s f hf ((bM.access (Rect.unit (s := S2x4096x256) ![s.val % 2, 0, 0] S1x4096x256.size
    (inbB (s.val % 2) (mod2 s.val)))).read (Elt F) f) rfl]
  iapply Hk
  isplitl [Hx]; · iexact Hx
  iexists f; iexact Hs

/-- Device `d`'s own row block of its result, holding its product. -/
def ownRow (d : Dev nD) : sProp 𝕄 :=
  iprop(∃ f, ⌜(rowM d).view.read (Elt F) f = P m d 0⌝ ∗ (rowM d).view.loc (d : Thread nD τ) ↦[(rowM d).view.set]{fullShare} f)

theorem off2_eq (d : Dev nD) : k0_off2 d = k0_off3 d := by
  unfold k0_off2 k0_off3; rfl

theorem keep_wp (𝒱 : Variants) (bd : Option 𝒱.V) {Q : PUnit → sProp 𝕄} (d : Dev nD) (k : Body F) :
    iprop((∃ f, (rowM d).view.loc (d : Thread nD τ) ↦[(rowM d).view.set]{fullShare} f))
      ⊢ iprop((ownRow m d -∗ wp frame (wpE (defs₀ (F := F)) 𝒱 d bd) Set.univ k Q)
          -∗ wp frame (wpE (defs₀ (F := F)) 𝒱 d bd) Set.univ (keep d (P m d 0) k) Q) := by
  unfold ownRow
  iintro ⟨%f, Hs⟩ Hk
  unfold keep
  iapply (wp_load_rect 𝒱 (d : Thread nD τ) bd Set.univ (m := oM)
    (r := Rect.unit (s := S4096x256) (k0_off2 d) S128x256.size (k0_off2_inb d))
    (S := (rowM d).view.set) subset_rfl) $$ Hs
  iintro Hs
  iapply (wp_store 𝒱 (d : Thread nD τ) bd Set.univ (m := oM)
    (r := Rect.unit (s := S4096x256) (k0_off2 d) S128x256.size (k0_off2_inb d)) (S := (rowM d).view.set) (View.setOn_subset_set _ _)) $$ Hs
  iintro Hs
  iapply Hk
  iexists (rowM d).view.write (Elt F) f (P m d 0) Finset.univ
  isplitr
  · ipureintro
    exact View.read_write_univ _ _
  · iexact Hs

end Cert.KernelIdeal.Steps

end
-- ==== Proof.Deliver.lean ====
/- A step's delivery: the product stored, sent, and both ends waited for. -/
module

public import proofs.«01_k».proof.Proof.Moves

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable {κ : Dev nD × Role → ℕ} {ν : Dev nD → ℕ}

/-- A slot of the products, at some contents. -/
def prodAny (d : Dev nD) (s : Fin 32) : sProp 𝕄 :=
  iprop(∃ f, (prodM s.val s.isLt).view.loc (d : Thread nD τ) ↦[(prodM s.val s.isLt).view.set]{fullShare} f)

/-- What a device holds for a step that it has not made. -/
def todo (d : Dev nD) (s : Fin 32) : sProp 𝕄 :=
  iprop(prodAny d s ∗ tok d (d + s : Fin 32) ∗ dutyTok EM (cell (d + s : Fin 32) (.recv s)) 0 () ∗ dutyTok EM (cell d (.send s)) 0 ()
    ∗ atPos EM (cell d (.send s)) 0 ∅ 0 ∗ atPos EM (cell d (.recv s)) 0 ∅ 0
    ∗ cred (tallyAt (cell d (.recv s)) () (units (.recv s))))

/-- What it holds for a step that it has made. -/
def made (d : Dev nD) (s : Fin 32) : sProp 𝕄 :=
  iprop(prodAny d s ∗ atPos EM (cell d (.send s)) 1 ∅ 0 ∗ atPos EM (cell d (.recv s)) 1 ∅ 0 ∗ got m (d - s : Fin 32) d s)

theorem add_sub (d : Dev nD) (s : Fin 32) : (((d + s : Fin 32) : Dev nD) - s : Fin 32) = d := add_sub_cancel_right (G := Fin 32) d s

theorem pay_recv (d : Dev nD) (s : Fin 32) : pay m (d + s : Fin 32) 0 (.recv s) = iprop(known (F := F) d (tri s.val) ∗ got m d (d + s : Fin 32) s) := by
  show iprop(known (F := F) ((d + s : Fin 32) - s : Fin 32) (tri s.val) ∗ got m ((d + s : Fin 32) - s : Fin 32) (d + s : Fin 32) s) = _
  rw [add_sub]

theorem send_rounds (s : Fin 32) (hs : s.val ≠ 0) : 0 < rounds (.send s) := by show 0 < if s.val = 0 then 0 else 1; rw [if_neg hs]; exact Nat.one_pos
theorem recv_rounds (s : Fin 32) (hs : s.val ≠ 0) : 0 < rounds (.recv s) := by show 0 < if s.val = 0 then 0 else 1; rw [if_neg hs]; exact Nat.one_pos

theorem recv_ne (s : Fin 32) (hs : s.val ≠ 0) : (Role.recv s) ≠ .recv 0 := by
  intro h; apply hs; simp only [Role.recv, Sum.inr.injEq] at h; rw [h]; rfl

/-- What a copy from a product's slot carries, after the product has been stored there. -/
theorem read_stored (s : ℕ) (hs : s < 32) (p : FVec F S128x256 .f32) (f : (prodM s hs).view.ty.Contents (Elt F)) :
    (prodM s hs).view.read (Elt F) ((yM.access (Rect.unit (s := S32x128x256) ![s, 0, 0] S1x128x256.size (inbY s hs))).write (Elt F) f (k0_pay3 p) Finset.univ) = p := by
  rw [Memref.read_squeeze_slice (Val := Elt F) yM
    (Rect.unit (s := S32x128x256) ![s, 0, 0] S1x128x256.size (inbY s hs)) (fun _ => rfl) squeezes_S1x128x256_S128x256 shapeCasts_S1x128x256_S128x256]
  rw [show yM.view.readAt (Elt F) (Rect.unit (s := S32x128x256) ![s, 0, 0] S1x128x256.size (inbY s hs)).toLoadRect
      ((yM.access (Rect.unit (s := S32x128x256) ![s, 0, 0] S1x128x256.size (inbY s hs))).write (Elt F) f (k0_pay3 p) Finset.univ) = k0_pay3 p from
    View.read_write_univ (v := yM.access (Rect.unit (s := S32x128x256) ![s, 0, 0] S1x128x256.size (inbY s hs))) _ _]
  exact shapeCast_shapeCast _ _ _

theorem writeUpdate_mono (c : Thread nD τ) {sp : Space} {s : Shape} {e : EltTy} {v : View sig c.2.kind sp s e} {w : s.Idx → Elt F e} {R R' : sProp 𝕄} (h : R ⊢ R') :
    writeUpdate c v w R ⊢ writeUpdate c v w R' := by
  rw [writeUpdate, writeUpdate, writeUpdateFrom_def, writeUpdateFrom_def]
  iintro ⟨%I, H, Hs, Hw⟩
  iexists I
  isplitl [H]; · iexact H
  isplitl [Hs]; · iexact Hs
  iintro H
  iapply h
  iapply Hw
  iexact H

/-- What is handed to the receiver's semaphore when the copy of step `s` lands: from the sender's rights, before it starts. -/
theorem send_update (d : Dev nD) (s : Fin 32) (hs : s.val ≠ 0) :
    iprop(ctx m κ ν ∗ known d (tri s.val) ∗ tok d (d + s : Fin 32))
      ⊢ (iprop(|={Set.univ}=> writeUpdate ((d + s : Fin 32) : Thread nD τ) (rowM d).view (P m d s) ((Rd m).payload (cell (d + s : Fin 32) (.recv s)) 0 ())) : sProp 𝕄) := by
  have hne : d ≠ (d + s : Fin 32) := by
    intro h; exact hs (by rw [left_eq_add (M := Fin 32)] at h; rw [h]; rfl)
  rw [Rd_payload, pay_recv]
  by_cases h8 : s.val < 8
  · iintro ⟨#Hc, #Hk, Ht⟩
    imodintro
    ihave Hu := (guard_write (ν (d + s : Fin 32)) d (d + s : Fin 32) hne (P m d s)) $$ [Ht]
    · isplitr
      · iapply (ctx_guard m (d + s : Fin 32)); iexact Hc
      · iexact Ht
    iapply (writeUpdate_mono ((d + s : Fin 32) : Thread nD τ) (R := iprop(tok d (d + s : Fin 32) ∗ known d (tri s.val))) (by
      unfold got
      rw [if_pos h8]
      iintro ⟨H, Hk⟩
      isplitl [Hk]; · iexact Hk
      iexact H))
    iapply (writeUpdate_frame ((d + s : Fin 32) : Thread nD τ))
    isplitl [Hu]; · iexact Hu
    iexact Hk
  · iintro ⟨#Hc, #Hk, Ht⟩
    imod (guard_swap (ν (d + s : Fin 32)) d (d + s : Fin 32) hne) $$ [Ht] with ⟨%f, Hf⟩
    · isplitr
      · iapply (ctx_guard m (d + s : Fin 32)); iexact Hc
      isplitr
      · iapply (known_target d s (not_lt.mp h8)); iexact Hk
      · iexact Ht
    imodintro
    iapply (writeUpdate_mono ((d + s : Fin 32) : Thread nD τ) (R := iprop(((rowM d).view.loc ((d + s : Fin 32) : Thread nD τ) ↦[(rowM d).view.set]{fullShare}
        (rowM d).view.write (Elt F) f (P m d s) Finset.univ) ∗ known d (tri s.val))) (by
      unfold got
      rw [if_neg h8]
      iintro ⟨H, Hk⟩
      isplitl [Hk]; · iexact Hk
      iexists (rowM d).view.write (Elt F) f (P m d s) Finset.univ
      isplitr
      · ipureintro; exact View.read_write_univ _ _
      iexact H))
    iapply (writeUpdate_frame ((d + s : Fin 32) : Thread nD τ))
    isplitl [Hf]
    · iapply (pointsTo_writeUpdate ((d + s : Fin 32) : Thread nD τ) (v := (rowM d).view) subset_rfl); iexact Hf
    iexact Hk

theorem deliver_eq (d : Dev nD) (s : ℕ) (hs : s < 32) (p : FVec F S128x256 .f32) (k : Body F) (e : Dev nD) (he : (⟨devN d s, devN_lt d s hs⟩ : Dev nD) = e)
    (a b : DmaSem sig) (ha : sendS s hs = a) (hb : recvS s hs = b) :
    deliver d s hs p k =
      Prog.op (.load yM (Rect.unit (s := S32x128x256) ![s, 0, 0] S1x128x256.size (inbY s hs)).toLoadRect (View.loadsAt_vmem h_S1x128x256)) fun _ =>
      Prog.op (.store yM (Rect.unit (s := S32x128x256) ![s, 0, 0] S1x128x256.size (inbY s hs)) (k0_pay3 p) Finset.univ
        (View.stores_vmem_bits_univ h_S1x128x256 rfl) (.inl rfl)) fun _ =>
      Prog.op (.enqueueDma (prodM s hs) (.remote (Dev.tc e) (rowM d) (.dma a)) (.dma b)
        ((View.wordExact_bits rfl).reshape _ _) (View.wordExact_bits rfl) ⟨⟨rfl, Or.inl rfl⟩, trivial⟩) fun _ =>
      Prog.op (.waitDma2 a (rowM d) (prodM s hs) (View.wordExact_bits rfl) ((View.wordExact_bits rfl).reshape _ _)) fun _ =>
      Prog.op (.waitDma2 b (prodM s hs) (rowM d) ((View.wordExact_bits rfl).reshape _ _) (View.wordExact_bits rfl)) fun _ => k := by
  subst he ha hb; rfl

theorem deliver_wp (𝒱 : Variants) (bd : Option 𝒱.V) {Q : PUnit → sProp 𝕄} (d : Dev nD) (s : Fin 32) (hs : s.val ≠ 0) (k : Body F) (W₀ : Waits sig Unit) :
    iprop(ctx m κ ν ∗ known d (tri s.val) ∗ owes (d : Thread nD τ) (owe d s.val) W₀ ∗ todo d s)
      ⊢ iprop((∀ W₁, known d (tri (s.val + 1)) ∗ owes (d : Thread nD τ) (owe d (s.val + 1)) W₁ ∗ made m d s
            -∗ wp frame (wpE (defs₀ (F := F)) 𝒱 d bd) Set.univ k Q)
          -∗ wp frame (wpE (defs₀ (F := F)) 𝒱 d bd) Set.univ (deliver d s.val s.isLt (P m d s) k) Q) := by
  unfold todo made
  iintro ⟨#Hc, #Hn, Ho, Hy, Ht, Hdr, Hds, Hps, Hpr, Hcr⟩ Hk
  rw [deliver_eq d s.val s.isLt (P m d s) k (d + s : Fin 32) (dev_eq d s) (semOf (.send s)) (semOf (.recv s)) (sendS_eq s) (recvS_eq s)]
  unfold prodAny
  icases Hy with ⟨%f, Hy⟩
  iapply (wp_load_rect 𝒱 (d : Thread nD τ) bd Set.univ (m := yM)
    (r := Rect.unit (s := S32x128x256) ![s.val, 0, 0] S1x128x256.size (inbY s.val s.isLt))
    (S := (prodM s.val s.isLt).view.set) (by rw [View.set_reshape])) $$ Hy
  iintro Hy
  iapply (wp_store 𝒱 (d : Thread nD τ) bd Set.univ (m := yM)
    (r := Rect.unit (s := S32x128x256) ![s.val, 0, 0] S1x128x256.size (inbY s.val s.isLt)) (S := (prodM s.val s.isLt).view.set)
    ((View.setOn_subset_set _ _).trans (by rw [View.set_reshape]))) $$ Hy
  iintro Hy
  imod (send_update (κ := κ) (ν := ν) m d s hs) $$ [Ht] with Hu
  · isplitr; · iexact Hc
    isplitr; · iexact Hn
    iexact Ht
  have hpay : ((prodM s.val s.isLt).view.loc (d : Thread nD τ) ↦[(prodM s.val s.isLt).view.set]{fullShare}
      ((yM.access (Rect.unit (s := S32x128x256) ![s.val, 0, 0] S1x128x256.size (inbY s.val s.isLt))).write (Elt F) f (k0_pay3 (P m d s)) Finset.univ))
      ⊢ (Rd m).payload (cell d (.send s)) 0 () := by
    rw [Rd_payload]
    show _ ⊢ iprop(∃ f, _)
    iintro H
    iexists _
    iexact H
  iapply (wp_send 𝒱 EM (Rd m) (d : Thread nD τ) bd (c' := ((d + s : Fin 32) : Thread nD τ)) (src := prodM s.val s.isLt) (dst := rowM d) (q := fullShare)
    (Rd_mem m d (.send s) 0 (send_rounds s hs)) (Rd_mem m (d + s : Fin 32) (.recv s) 0 (recv_rounds s hs)) () () (units (.recv s)) rfl
    (Rd_amount m d _ _ _) (Rd_amount m (d + s : Fin 32) _ _ _) (owe d (s.val + 1)) (owe_succ d s hs) hpay Entails.rfl) $$ [Hy Hu Ho Hds Hdr]
  · isplitr; · iapply (ctx_cell m d (.send s) (by simp)); iexact Hc
    isplitr; · iapply (ctx_cell m (d + s : Fin 32) (.recv s) (recv_ne s hs)); iexact Hc
    isplitl [Hy]; · iexact Hy
    isplitl [Hu]
    · rw [read_stored]; iexact Hu
    isplitl [Ho]; · iexact Ho
    isplitl [Hds]; · iexact Hds
    isplitr; · iapply (ctx_reached m d (.send s) (by simp)); iexact Hc
    isplitl [Hdr]; · iexact Hdr
    iapply (ctx_reached m (d + s : Fin 32) (.recv s) (recv_ne s hs)); iexact Hc
  iintro ⟨Hcs, Ho⟩
  iapply (await_wp m defs₀ 𝒱 bd (dst := prodM s.val s.isLt) d (.send s) (by simp) 0 (send_rounds s hs) (s.val + 1) (Nat.zero_le _) rfl) $$ [Hcs Ho Hps]
  · isplitr; · iexact Hc
    isplitl [Hcs]; · iexact Hcs
    isplitl [Ho]; · iexact Ho
    iexact Hps
  iintro %W₁ ⟨Ho, Hps, -, Hy⟩
  iapply (await_wp m defs₀ 𝒱 bd (dst := rowM d) d (.recv s) (recv_ne s hs) 0 (recv_rounds s hs) (s.val + 1) le_rfl rfl) $$ [Hcr Ho Hpr]
  · isplitr; · iexact Hc
    isplitl [Hcr]; · iexact Hcr
    isplitl [Ho]; · iexact Ho
    iexact Hpr
  iintro %W₂ ⟨Ho, Hpr, -, Hg⟩
  simp only [pay]
  icases Hg with ⟨#Hn', Hg⟩
  iapply Hk
  isplitr
  · iapply (known_step d s hs)
    isplitr; · iexact Hn
    iexact Hn'
  isplitl [Ho]; · iexact Ho
  isplitl [Hy]; · iexact Hy
  isplitl [Hps]; · iexact Hps
  isplitl [Hpr]; · iexact Hpr
  iexact Hg

end Cert.KernelIdeal.Steps

end
-- ==== Proof.Geometry.lean ====
/- The buffers of a device in blocks: the rows of a result, the slots of the column blocks, the slots of the products. -/
module

public import proofs.«01_k».proof.Proof.Deliver

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ### Row blocks of a result -/

/-- The elements of row block `c`. -/
abbrev rowSet (c : Dev nD) : Finset (S4096x256.Idx) := (rowM c).view.set

theorem off3_eq (c : Dev nD) : k0_off3 c = ![128 * c.val, 0] := by
  have h : ∀ c : Dev nD, k0_off3 c 0 = 128 * c.val := by decide +kernel
  funext a
  fin_cases a
  · exact h c
  · rfl

theorem rowSet_eq (c : Dev nD) : rowSet c = (Rect.unit (s := S4096x256) (k0_off3 c) S128x256.size (k0_off3_inb c)).set :=
  View.set_slice_whole _ _

theorem row_disjoint (c c' : Dev nD) (h : c ≠ c') : Disjoint (rowSet c) (rowSet c') := by
  rw [rowSet_eq, rowSet_eq]
  exact Ring.lead_disjoint (NB := 32) (s := S4096x256) (0 : Fin 2) 128 k0_off3 S128x256.size k0_off3_inb (fun b => by rw [off3_eq]; rfl) rfl c c' h

theorem row_cover : Finset.univ.biUnion rowSet = Finset.univ := by
  rw [show rowSet = fun c => (Rect.unit (s := S4096x256) (k0_off3 c) S128x256.size (k0_off3_inb c)).set from funext rowSet_eq]
  refine Ring.lead_cover (NB := 32) (s := S4096x256) (0 : Fin 2) 128 k0_off3 S128x256.size k0_off3_inb (fun b => by rw [off3_eq]; rfl) ?_ rfl ?_ rfl
  · intro b a ha
    rw [off3_eq]
    fin_cases a
    · exact absurd rfl ha
    · rfl
  · intro a ha
    fin_cases a
    · exact absurd rfl ha
    · rfl

/-- A row block at some contents. -/
def rowAny (d c : Dev nD) : sProp 𝕄 :=
  iprop(∃ f, (rowM c).view.loc (d : Thread nD τ) ↦[(rowM c).view.set]{fullShare} f)

theorem rowAny_intro (d : Dev nD) (c : Dev nD) (f : Buf (Elt F) ((d : Thread nD τ).loc cc0_stg1_0)) :
    ((d : Thread nD τ).loc cc0_stg1_0 ↦[rowSet c]{fullShare} f : sProp 𝕄) ⊢ rowAny (F := F) d c := by
  unfold rowAny
  iintro H
  iexists f
  iexact H

theorem rows_split (d : Dev nD) (f : Buf (Elt F) ((d : Thread nD τ).loc cc0_stg1_0)) :
    ((d : Thread nD τ).loc cc0_stg1_0 ↦{fullShare} f) ⊢ bigSep Finset.univ (rowAny (F := F) d) := by
  rw [Ring.pointsTo_blocks (ℓ := (d : Thread nD τ).loc cc0_stg1_0) rowSet row_disjoint row_cover f]
  refine BI.bigSep_mono fun c _ => ?_
  exact rowAny_intro d _ f

/-- A row block, right wherever the step that sends it is one that is known to be in time. -/
def rowGood (d c : Dev nD) : sProp 𝕄 :=
  iprop(∃ f, ⌜∀ s : Fin 32, (s.val = 0 ∨ 8 ≤ s.val) → (d - s : Fin 32) = c → (rowM c).view.read (Elt F) f = P m c s⌝
    ∗ (rowM c).view.loc (d : Thread nD τ) ↦[(rowM c).view.set]{fullShare} f)

theorem rows_join (d : Dev nD) :
    bigSep Finset.univ (rowGood m d)
      ⊢ (iprop(∃ f : Buf (Elt F) ((d : Thread nD τ).loc cc0_stg1_0), ⌜Good m d f⌝ ∗ (d : Thread nD τ).loc cc0_stg1_0 ↦{fullShare} f) : sProp 𝕄) := by
  unfold rowGood
  refine (BI.bigSep_exists_pi Finset.univ (fun (c : Dev nD) (f : Buf (Elt F) ((d : Thread nD τ).loc cc0_stg1_0)) =>
    (iprop(⌜∀ s : Fin 32, (s.val = 0 ∨ 8 ≤ s.val) → (d - s : Fin 32) = c → (rowM c).view.read (Elt F) f = P m c s⌝
      ∗ (d : Thread nD τ).loc cc0_stg1_0 ↦[rowSet c]{fullShare} f) : sProp 𝕄))).trans ?_
  iintro ⟨%fs, H⟩
  ihave H := (BI.bigSep_pure_sep Finset.univ (fun c : Dev nD => ∀ s : Fin 32, (s.val = 0 ∨ 8 ≤ s.val) → (d - s : Fin 32) = c → (rowM c).view.read (Elt F) (fs c) = P m c s)
    (fun c : Dev nD => ((d : Thread nD τ).loc cc0_stg1_0 ↦[rowSet c]{fullShare} fs c : sProp 𝕄))) $$ H
  icases H with ⟨%hP, H⟩
  ihave H := (pointsTo_biUnion_join (ℓ := (d : Thread nD τ).loc cc0_stg1_0) (q := fullShare) Finset.univ rowSet fs (fs 0)
    (fun c _ c' _ h => row_disjoint c c' h)) $$ H
  icases H with ⟨%g, %hg, H⟩
  iexists g
  isplitr
  · ipureintro
    intro s hs
    have h := hP (d - s : Fin 32) (Finset.mem_univ _) s hs rfl
    rw [← h]
    exact View.read_congr_of_subset (rowM (d - s : Fin 32)).view (rowSet (d - s : Fin 32)) subset_rfl (fun i hi => hg _ (Finset.mem_univ _) i hi)
  · rw [row_cover]
    iexact H

/-! ### The slots of the column blocks and of the products -/

abbrev slotSet (b : Fin 2) : Finset (S2x4096x256.Idx) := (slotM b.val b.isLt).view.set
abbrev prodSet (s : Fin 32) : Finset (S32x128x256.Idx) := (prodM s.val s.isLt).view.set

theorem slotSet_eq (b : Fin 2) : slotSet b = (Rect.unit (s := S2x4096x256) ![b.val, 0, 0] S1x4096x256.size (inbB b.val b.isLt)).set := by
  unfold slotSet; rw [View.set_reshape]; exact View.set_slice_whole _ _
theorem prodSet_eq (s : Fin 32) : prodSet s = (Rect.unit (s := S32x128x256) ![s.val, 0, 0] S1x128x256.size (inbY s.val s.isLt)).set := by
  unfold prodSet; rw [View.set_reshape]; exact View.set_slice_whole _ _

theorem slot_disjoint (b b' : Fin 2) (h : b ≠ b') : Disjoint (slotSet b) (slotSet b') := by
  rw [slotSet_eq, slotSet_eq]
  exact Ring.lead_disjoint (NB := 2) (s := S2x4096x256) (0 : Fin 3) 1 (fun b => ![b.val, 0, 0]) S1x4096x256.size (fun b => inbB b.val b.isLt)
    (fun b => (Nat.one_mul _).symm) rfl b b' h

theorem slot_cover : Finset.univ.biUnion slotSet = Finset.univ := by
  rw [show slotSet = fun b => (Rect.unit (s := S2x4096x256) ![b.val, 0, 0] S1x4096x256.size (inbB b.val b.isLt)).set from funext slotSet_eq]
  refine Ring.lead_cover (NB := 2) (s := S2x4096x256) (0 : Fin 3) 1 (fun b => ![b.val, 0, 0]) S1x4096x256.size (fun b => inbB b.val b.isLt)
    (fun b => (Nat.one_mul _).symm) ?_ rfl ?_ rfl
  · intro b a ha
    fin_cases a
    · exact absurd rfl ha
    · rfl
    · rfl
  · intro a ha
    fin_cases a
    · exact absurd rfl ha
    · rfl
    · rfl

theorem prod_disjoint (b b' : Fin 32) (h : b ≠ b') : Disjoint (prodSet b) (prodSet b') := by
  rw [prodSet_eq, prodSet_eq]
  exact Ring.lead_disjoint (NB := 32) (s := S32x128x256) (0 : Fin 3) 1 (fun b => ![b.val, 0, 0]) S1x128x256.size (fun b => inbY b.val b.isLt)
    (fun b => (Nat.one_mul _).symm) rfl b b' h

theorem prod_cover : Finset.univ.biUnion prodSet = Finset.univ := by
  rw [show prodSet = fun b => (Rect.unit (s := S32x128x256) ![b.val, 0, 0] S1x128x256.size (inbY b.val b.isLt)).set from funext prodSet_eq]
  refine Ring.lead_cover (NB := 32) (s := S32x128x256) (0 : Fin 3) 1 (fun b => ![b.val, 0, 0]) S1x128x256.size (fun b => inbY b.val b.isLt)
    (fun b => (Nat.one_mul _).symm) ?_ rfl ?_ rfl
  · intro b a ha
    fin_cases a
    · exact absurd rfl ha
    · rfl
    · rfl
  · intro a ha
    fin_cases a
    · exact absurd rfl ha
    · rfl
    · rfl

theorem slotAny_intro (d : Dev nD) (c : Fin 2) (f : Buf (Elt F) ((d : Thread nD τ).loc cc0_scratch0)) :
    ((d : Thread nD τ).loc cc0_scratch0 ↦[slotSet c]{fullShare} f : sProp 𝕄) ⊢ slotAny (F := F) d c := by
  unfold slotAny
  iintro H
  iexists f
  iexact H

theorem slots_split (d : Dev nD) (f : Buf (Elt F) ((d : Thread nD τ).loc cc0_scratch0)) :
    ((d : Thread nD τ).loc cc0_scratch0 ↦{fullShare} f) ⊢ iprop(slotAny (F := F) d 0 ∗ slotAny d 1) := by
  rw [Ring.pointsTo_blocks (ℓ := (d : Thread nD τ).loc cc0_scratch0) slotSet slot_disjoint slot_cover f]
  have h : (bigSep Finset.univ fun b : Fin 2 => ((d : Thread nD τ).loc cc0_scratch0 ↦[slotSet b]{fullShare} f : sProp 𝕄))
      ⊢ bigSep Finset.univ (slotAny (F := F) d) := by
    refine BI.bigSep_mono fun b _ => ?_
    exact slotAny_intro d _ f
  rw [bigSep_W0 (slotAny (F := F) d)] at h
  exact h

theorem slots_join (d : Dev nD) :
    iprop(slotAny (F := F) d 0 ∗ slotAny d 1) ⊢ (iprop(∃ f, (d : Thread nD τ).loc cc0_scratch0 ↦{fullShare} f) : sProp 𝕄) := by
  rw [← bigSep_W0 (slotAny (F := F) d)]
  exact Ring.pointsTo_blocks_join_exists (ℓ := (d : Thread nD τ).loc cc0_scratch0) slotSet slot_disjoint slot_cover (fun _ => Classical.arbitrary _)

theorem prodAny_intro (d : Dev nD) (c : Fin 32) (f : Buf (Elt F) ((d : Thread nD τ).loc cc0_scratch1)) :
    ((d : Thread nD τ).loc cc0_scratch1 ↦[prodSet c]{fullShare} f : sProp 𝕄) ⊢ prodAny (F := F) d c := by
  unfold prodAny
  iintro H
  iexists f
  iexact H

theorem prods_split (d : Dev nD) (f : Buf (Elt F) ((d : Thread nD τ).loc cc0_scratch1)) :
    ((d : Thread nD τ).loc cc0_scratch1 ↦{fullShare} f) ⊢ bigSep Finset.univ (prodAny (F := F) d) := by
  rw [Ring.pointsTo_blocks (ℓ := (d : Thread nD τ).loc cc0_scratch1) prodSet prod_disjoint prod_cover f]
  refine BI.bigSep_mono fun b _ => ?_
  exact prodAny_intro d _ f

theorem prods_join (d : Dev nD) :
    bigSep Finset.univ (prodAny (F := F) d) ⊢ (iprop(∃ f, (d : Thread nD τ).loc cc0_scratch1 ↦{fullShare} f) : sProp 𝕄) :=
  Ring.pointsTo_blocks_join_exists (ℓ := (d : Thread nD τ).loc cc0_scratch1) prodSet prod_disjoint prod_cover (fun _ => Classical.arbitrary _)

end Cert.KernelIdeal.Steps

end
-- ==== Proof.Enter.lean ====
/- The entry of a device into the kernel. -/
module

public import proofs.«01_k».proof.Proof.Geometry

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable {κ : Dev nD × Role → ℕ} {ν : Dev nD → ℕ}

/-- A buffer, at some contents. -/
abbrev anyBuf (d : Dev nD) (b : Ref sig .tc) : sProp 𝕄 :=
  iprop(∃ f : Buf (Elt F) ((d : Thread nD τ).loc b), (d : Thread nD τ).loc b ↦{fullShare} f)

theorem scopedBufs_list (d : Dev nD) : (scopedBufs (d : Thread nD τ) : sProp 𝕄)
    = iprop(anyBuf d cc0_stg0_0 ∗ anyBuf d cc0_stg1_0 ∗ anyBuf d cc0_scratch0 ∗ anyBuf d cc0_scratch1) := by
  rw [show (scopedBufs (d : Thread nD τ) : sProp 𝕄) = _ from scopedBufs_tc d]
  exact bigSep_eq_bigSepL_of_eq [cc0_stg0_0, cc0_stg1_0, cc0_scratch0, cc0_scratch1] (by decide) (by decide) _

/-- What a device takes into the kernel beside the staging of its result: the other buffers made anew. -/
def brought (d : Dev nD) : sProp 𝕄 :=
  iprop(anyBuf (F := F) d cc0_stg0_0 ∗ anyBuf d cc0_scratch0 ∗ anyBuf d cc0_scratch1)

theorem scopedBufs_brought (d : Dev nD) :
    iprop(brought (F := F) d ∗ anyBuf d cc0_stg1_0) ⊢ (scopedBufs (d : Thread nD τ) : sProp 𝕄) := by
  rw [scopedBufs_list]
  unfold brought
  iintro ⟨⟨H₁, H₂, H₃⟩, H₄⟩
  isplitl [H₁]; · iexact H₁
  isplitl [H₄]; · iexact H₄
  isplitl [H₂]; · iexact H₂
  iexact H₃

theorem brought_scopedBufs (d : Dev nD) :
    (scopedBufs (d : Thread nD τ) : sProp 𝕄) ⊢ iprop(brought (F := F) d ∗ anyBuf d cc0_stg1_0) := by
  rw [scopedBufs_list]
  unfold brought
  iintro ⟨H₁, H₄, H₂, H₃⟩
  isplitr [H₄]
  · isplitl [H₁]; · iexact H₁
    isplitl [H₂]; · iexact H₂
    iexact H₃
  iexact H₄

theorem rowAny_or (d c : Dev nD) : rowAny (F := F) d c
    ⊢ iprop((∃ f, (rowM c).view.loc (d : Thread nD τ) ↦[(rowM c).view.set]{fullShare} f) ∨ tok (F := F) c d) := by
  unfold rowAny
  iintro H
  ileft
  iexact H

/-- The staging of the result, taken from the guard for the moment of the entry; returned, the device is known to have
    entered and keeps its own row block. -/
theorem guard_open (d : Dev nD) :
    iprop(inv (ν d) (guard (F := F) d) ∗ openTok (EM (F := F)) (door d))
      ⊢ (iprop(|={Set.univ, Set.univ \ {ν d}}=> (anyBuf (F := F) d cc0_stg1_0
          ∗ (anyBuf (F := F) d cc0_stg1_0 -∗ |={Set.univ \ {ν d}, Set.univ}=> (entered d ∗ rowAny d d)))) : sProp 𝕄) := by
  have hrows : bigSep (Finset.univ.erase d) (rowAny (F := F) d) ⊢ bigSep (Finset.univ.erase d) fun c : Dev nD =>
      iprop((∃ f, (rowM c).view.loc (d : Thread nD τ) ↦[(rowM c).view.set]{fullShare} f) ∨ tok (F := F) c d) :=
    BI.bigSep_mono fun c _ => rowAny_or d c
  iintro ⟨#Hi, Ht⟩
  imod (inv_acc (Set.mem_univ (ν d))) $$ Hi with ⟨HG, Hclose⟩
  simp only [guard]
  icases HG with (⟨Hu, Hs⟩ | ⟨Ha, -⟩)
  · imodintro
    isplitl [Hs]; · iexact Hs
    iintro ⟨%f, Hs⟩
    imod (unopenedAuth_openTok_open (EM (F := F))) $$ [Hu Ht] with ⟨Ha, -⟩
    · isplitl [Hu]; · iexact Hu
      iexact Ht
    imod (roundAuth_witness (EM (F := F)) (g := door d)) $$ Ha with ⟨Ha, He⟩
    ihave Hs := (rows_split d f) $$ Hs
    ihave ⟨Hown, Hs⟩ := (Entails.of_eq (bigSep_at (Finset.mem_univ d) (rowAny (F := F) d))) $$ Hs
    imod Hclose $$ [Ha Hs] with -
    · iright
      isplitl [Ha]; · iexact Ha
      iapply hrows
      iexact Hs
    imodintro
    isplitl [He]
    · unfold entered; iexact He
    iexact Hown
  · iexfalso
    iapply (roundAuth_openTok_false (EM (F := F)))
    isplitl [Ha]; · iexact Ha
    iexact Ht

section Call

variable {Λ : Labels} {defs : Defs nD τ sig (Elt F) Λ}

/-- The kernel entered by a device, the staging of its result under guard. -/
theorem enter_wp (𝒱 : Variants) (bd : Option 𝒱.V) {α : Type} {Q : α → sProp 𝕄} (d : Dev nD)
    {ℓ : Λ.Label} {a : Λ.Args ℓ} {k : Λ.Result ℓ → Prog (TpuEff nD τ sig (Elt F) Λ .tc) α}
    (v : 𝒱.V) (hv : ∀ u ∈ bd, 𝒱.lt v u) :
    iprop(inv (ν d) (guard (F := F) d) ∗ openTok (EM (F := F)) (door d) ∗ brought (F := F) d)
      ⊢ iprop((brought (F := F) d ∗ entered d ∗ rowAny d d -∗ wp frame (wpE' defs 𝒱 d (some v) (PendingWaitsCtx.empty.descend none)) Set.univ (defs .tc ℓ a) fun r =>
                kernelExitSpec (d : Thread nD τ) fun _ => wp frame (wpE defs 𝒱 d bd) Set.univ (k r) Q)
        -∗ wp frame (wpE defs 𝒱 d bd) Set.univ (.op (.customCall ℓ a) k) Q) := by
  iintro ⟨#Hi, Ht, Hb⟩ Hk
  rw [wp_op, wpE'_customCall_eq]
  imodintro
  imod (guard_open (F := F) (ν := ν) d) $$ [Ht] with ⟨Hs, Hclose⟩
  · isplitr; · iexact Hi
    iexact Ht
  imodintro
  rw [scopedSpec_apply]
  isplitl [Hs Hb]
  · iapply (scopedBufs_brought d)
    isplitl [Hb]; · iexact Hb
    iexact Hs
  iintro Hsc
  ihave ⟨Hb, Hs⟩ := (brought_scopedBufs d) $$ Hsc
  imod Hclose $$ Hs with ⟨He, Hown⟩
  imodintro
  iapply (callArm_descend 𝒱 (d : Thread nD τ) bd Set.univ PendingWaitsCtx.empty true _)
  iexists v
  isplitr; · ipureintro; exact hv
  simp only [bodyOf, wp_bind]
  have hexit (r : Λ.Result ℓ) : kernelExitSpec (d : Thread nD τ) (fun _ => wp frame (wpE defs 𝒱 d bd) Set.univ (k r) Q)
      ⊢ wp frame (wpE' defs 𝒱 d (some v) (PendingWaitsCtx.empty.descend none)) Set.univ (.op .kernelExit fun _ => .ret r) (fun x => wp frame (wpE defs 𝒱 d bd) Set.univ (k x) Q) := by
    rw [wp_op, wpE_kernelExit_eq, wp_ret, kernelExitSpec_apply, kernelExitSpec_apply]
    iintro ⟨Hz, Hk⟩
    imodintro
    isplitl [Hz]; · iexact Hz
    iintro Hz
    ispecialize Hk $$ Hz
    icases Hk with ⟨Hsc', Hk⟩
    isplitl [Hsc']; · iexact Hsc'
    iintro Hsc'; imodintro; iapply Hk; iexact Hsc'
  iapply (wp_mono frame _ Set.univ hexit)
  iapply Hk
  isplitl [Hb]; · iexact Hb
  isplitl [He]; · iexact He
  iexact Hown

end Call

end Cert.KernelIdeal.Steps

end
-- ==== Proof.Body.lean ====
/- The body at any device, step by step. -/
module

public import proofs.«01_k».proof.Proof.Deliver

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable {κ : Dev nD × Role → ℕ} {ν : Dev nD → ℕ}

/-- The slot of step `n`. -/
abbrev parN (n : ℕ) : Fin 2 := ⟨n % 2, mod2 n⟩

theorem parN_two (n : ℕ) : parN (n + 1 + 1) = parN n := Fin.ext (by show (n + 1 + 1) % 2 = n % 2; omega)
theorem half_two (n : ℕ) : (n + 1 + 1) / 2 = n / 2 + 1 := by omega

/-- The rights to the copies after step `n`. -/
def copyToks (d : Dev nD) (n : ℕ) : sProp 𝕄 :=
  bigSep (Finset.univ.filter fun u : Fin 32 => n < u.val) fun u => dutyTok (EM (F := F)) (cell d (.copy (par u))) (u.val / 2) ()

theorem copyToks_take (d : Dev nD) (n : ℕ) (h : n + 1 < 32) :
    copyToks (F := F) d n ⊢ iprop(dutyTok EM (cell d (.copy (parN (n + 1)))) ((n + 1) / 2) () ∗ copyToks d (n + 1)) := by
  unfold copyToks
  have hset : (Finset.univ.filter fun u : Fin 32 => n < u.val) = insert ⟨n + 1, h⟩ (Finset.univ.filter fun u : Fin 32 => n + 1 < u.val) := by
    ext u
    simp only [Finset.mem_insert, Finset.mem_filter, Finset.mem_univ, true_and, Fin.ext_iff]
    omega
  rw [hset, BI.bigSep_insert (by simp)]
  exact BIBase.Entails.rfl

/-- The steps that have been made at step `n`. -/
def earlier (n : ℕ) : Finset (Fin 32) := Finset.univ.filter fun t => t.val < n ∧ t.val ≠ 0

theorem earlier_succ (s : Fin 32) (hs : s.val ≠ 0) : earlier (s.val + 1) = insert s (earlier s.val) := by
  ext t
  simp only [earlier, Finset.mem_insert, Finset.mem_filter, Finset.mem_univ, true_and, Fin.ext_iff]
  omega

theorem made_put (d : Dev nD) (s : Fin 32) (hs : s.val ≠ 0) :
    iprop(made m d s ∗ bigSep (earlier s.val) (made m d)) ⊢ bigSep (earlier (s.val + 1)) (made m d) := by
  rw [earlier_succ s hs, BI.bigSep_insert (by simp [earlier])]
  exact BIBase.Entails.rfl

theorem todo_take (d : Dev nD) (s : Fin 32) (hs : s.val ≠ 0) :
    bigSep (later s.val) (todo (F := F) d) ⊢ iprop(todo d s ∗ bigSep (later (s.val + 1)) (todo d)) := by
  rw [later_succ s hs, BI.bigSep_insert (by simp [later])]
  exact BIBase.Entails.rfl

/-- What a device holds as step `n` begins, its column block on the way. -/
def St (d : Dev nD) (n : ℕ) : sProp 𝕄 :=
  iprop(xFull m d ∗ wShare m d ∗ slotAny d (parN (n + 1))
    ∗ cred (tallyAt (cell d (.copy (parN n))) () (units (.copy (parN n))))
    ∗ atPos EM (cell d (.copy (parN n))) (n / 2) ∅ 0
    ∗ atPos EM (cell d (.copy (parN (n + 1)))) ((n + 1) / 2) ∅ 0
    ∗ reached EM (cell d (.copy (parN (n + 1)))) ((n + 1) / 2)
    ∗ copyToks d n ∗ known d (tri n) ∗ (∃ W₀, owes (d : Thread nD τ) (owe d n) W₀)
    ∗ bigSep (earlier n) (made m d) ∗ bigSep (later n) (todo d))

/-- What it holds at the end. -/
def Done (d : Dev nD) : sProp 𝕄 :=
  iprop(xFull m d ∗ wShare m d ∗ slotAny d 0 ∗ slotAny d 1
    ∗ atPos EM (cell d (.copy 0)) 16 ∅ 0 ∗ atPos EM (cell d (.copy 1)) 16 ∅ 0
    ∗ (∃ W₀, owes (d : Thread nD τ) (owe d 32) W₀)
    ∗ bigSep (earlier 32) (made m d))

theorem step_wp (𝒱 : Variants) (bd : Option 𝒱.V) {Q : PUnit → sProp 𝕄} (d : Dev nD) (s : ℕ) (h0 : s ≠ 0) (hs : s + 1 < 32) (k : Body F) :
    iprop(ctx m κ ν ∗ St m d s)
      ⊢ iprop((St m d (s + 1) -∗ wp frame (wpE (defs₀ (F := F)) 𝒱 d bd) Set.univ k Q)
          -∗ wp frame (wpE (defs₀ (F := F)) 𝒱 d bd) Set.univ (step d s hs k) Q) := by
  have h : s < 32 := by omega
  unfold St step
  rw [parN_two, half_two]
  iintro ⟨#Hc, Hx, Hw, Hb, Hcr, Hp, Hp', Hr, Ht, #Hn, ⟨%W₀, Ho⟩, Hm, Hl⟩ Hk
  iapply (waitCopy_wp m 𝒱 bd d ⟨s, h⟩ _ s W₀) $$ [Hcr Ho Hp]
  · isplitr; · iexact Hc
    isplitl [Hcr]; · iexact Hcr
    isplitl [Ho]; · iexact Ho
    iexact Hp
  iintro %W₁ ⟨Ho, Hp, Hr', Hb'⟩
  ihave ⟨Hd, Ht⟩ := (copyToks_take d s hs) $$ Ht
  iapply (startCopy_wp m 𝒱 bd d ⟨s + 1, hs⟩ _) $$ [Hw Hb Hd Hr]
  · isplitr; · iexact Hc
    isplitl [Hw]; · iexact Hw
    isplitl [Hb]; · iexact Hb
    isplitl [Hd]; · iexact Hd
    iexact Hr
  iintro ⟨Hw, Hcr⟩
  iapply (loads_wp m 𝒱 bd d ⟨s, h⟩ _) $$ [Hx Hb']
  · isplitl [Hx]; · iexact Hx
    iexact Hb'
  iintro ⟨Hx, Hb⟩
  ihave ⟨Htd, Hl⟩ := (todo_take d ⟨s, h⟩ h0) $$ Hl
  iapply (deliver_wp m 𝒱 bd d ⟨s, h⟩ h0 k W₁) $$ [Ho Htd]
  · isplitr; · iexact Hc
    isplitr; · iexact Hn
    isplitl [Ho]; · iexact Ho
    iexact Htd
  iintro %W₂ ⟨#Hn', Ho, Hmd⟩
  iapply Hk
  isplitl [Hx]; · iexact Hx
  isplitl [Hw]; · iexact Hw
  isplitl [Hb]; · iexact Hb
  isplitl [Hcr]; · iexact Hcr
  isplitl [Hp']; · iexact Hp'
  isplitl [Hp]; · iexact Hp
  isplitl [Hr']; · iexact Hr'
  isplitl [Ht]; · iexact Ht
  isplitr; · iexact Hn'
  isplitl [Ho]; · iexists _; iexact Ho
  isplitl [Hmd Hm]
  · iapply (made_put m d ⟨s, h⟩ h0)
    isplitl [Hmd]; · iexact Hmd
    iexact Hm
  iexact Hl

theorem lastStep_wp (𝒱 : Variants) (bd : Option 𝒱.V) {Q : PUnit → sProp 𝕄} (d : Dev nD) (k : Body F) :
    iprop(ctx m κ ν ∗ St m d 31)
      ⊢ iprop((Done m d -∗ wp frame (wpE (defs₀ (F := F)) 𝒱 d bd) Set.univ k Q)
          -∗ wp frame (wpE (defs₀ (F := F)) 𝒱 d bd) Set.univ (lastStep d k) Q) := by
  unfold St Done lastStep
  iintro ⟨#Hc, Hx, Hw, Hb, Hcr, Hp, Hp', -, -, #Hn, ⟨%W₀, Ho⟩, Hm, Hl⟩ Hk
  iapply (waitCopy_wp m 𝒱 bd d ⟨31, by decide⟩ _ 31 W₀) $$ [Hcr Ho Hp]
  · isplitr; · iexact Hc
    isplitl [Hcr]; · iexact Hcr
    isplitl [Ho]; · iexact Ho
    iexact Hp
  iintro %W₁ ⟨Ho, Hp, -, Hb'⟩
  iapply (loads_wp m 𝒱 bd d ⟨31, by decide⟩ _) $$ [Hx Hb']
  · isplitl [Hx]; · iexact Hx
    iexact Hb'
  iintro ⟨Hx, Hb'⟩
  ihave ⟨Htd, Hl⟩ := (todo_take d ⟨31, by decide⟩ (by decide)) $$ Hl
  iapply (deliver_wp m 𝒱 bd d ⟨31, _⟩ (by decide) k W₁) $$ [Ho Htd]
  · isplitr; · iexact Hc
    isplitr; · iexact Hn
    isplitl [Ho]; · iexact Ho
    iexact Htd
  iintro %W₂ ⟨-, Ho, Hmd⟩
  iapply Hk
  isplitl [Hx]; · iexact Hx
  isplitl [Hw]; · iexact Hw
  isplitl [Hb]; · iexact Hb
  isplitl [Hb']; · iexact Hb'
  isplitl [Hp']; · iexact Hp'
  isplitl [Hp]; · iexact Hp
  isplitl [Ho]; · iexists _; iexact Ho
  iapply (made_put m d ⟨31, by decide⟩ (by decide))
  isplitl [Hmd]; · iexact Hmd
  iexact Hm

theorem chain_wp (𝒱 : Variants) (bd : Option 𝒱.V) {Q : PUnit → sProp 𝕄} (d : Dev nD) : ∀ (n : ℕ) (h : n < 32) (_ : n ≤ 30),
    iprop(ctx m κ ν ∗ St m d (31 - n))
      ⊢ iprop((Done m d -∗ Q ⟨⟩) -∗ wp frame (wpE (defs₀ (F := F)) 𝒱 d bd) Set.univ (chain d n h) Q)
  | 0, _, _ => by
    unfold chain
    iintro H Hk
    iapply (lastStep_wp m 𝒱 bd d _) $$ H
    iintro H
    rw [wp_ret]
    imodintro
    iapply Hk
    iexact H
  | n + 1, h, h' => by
    unfold chain
    iintro ⟨#Hc, H⟩ Hk
    iapply (step_wp m 𝒱 bd d (31 - (n + 1)) (by omega) _ _) $$ [H]
    · isplitr; · iexact Hc
      iexact H
    rw [show 31 - (n + 1) + 1 = 31 - n by omega]
    iintro H
    iapply (chain_wp 𝒱 bd d n _ (by omega)) $$ [H]
    · isplitr; · iexact Hc
      iexact H
    iexact Hk

/-- What a device holds as the body begins. -/
def Start (d : Dev nD) : sProp 𝕄 :=
  iprop(xFull m d ∗ wShare m d ∗ slotAny d 0 ∗ slotAny d 1
    ∗ atPos EM (cell d (.copy 0)) 0 ∅ 0 ∗ atPos EM (cell d (.copy 1)) 0 ∅ 0
    ∗ dutyTok EM (cell d (.copy 0)) 0 () ∗ copyToks d 0 ∗ known d 0 ∗ (∃ W₀, owes (d : Thread nD τ) (owe d 0) W₀)
    ∗ (∃ f, (rowM d).view.loc (d : Thread nD τ) ↦[(rowM d).view.set]{fullShare} f)
    ∗ bigSep (later 1) (todo d))

theorem body_wp (𝒱 : Variants) (bd : Option 𝒱.V) {Q : PUnit → sProp 𝕄} (d : Dev nD) :
    iprop(ctx m κ ν ∗ Start m d)
      ⊢ iprop((Done m d ∗ ownRow m d -∗ Q ⟨⟩) -∗ wp frame (wpE (defs₀ (F := F)) 𝒱 d bd) Set.univ (body F) Q) := by
  unfold Start body
  iintro ⟨#Hc, Hx, Hw, Hb, Hb', Hp, Hp', Hd, Ht, #Hn, ⟨%W₀, Ho⟩, Hrow, Hl⟩ Hk
  rw [wp_deviceId]
  iapply (startCopy_wp m 𝒱 bd d 0 _) $$ [Hw Hb Hd]
  · isplitr; · iexact Hc
    isplitl [Hw]; · iexact Hw
    isplitl [Hb]; · iexact Hb
    isplitl [Hd]; · iexact Hd
    iapply (ctx_reached m d (.copy 0) (by simp)); iexact Hc
  iintro ⟨Hw, Hcr⟩
  iapply (waitCopy_wp m 𝒱 bd d 0 _ 0 W₀) $$ [Hcr Ho Hp]
  · isplitr; · iexact Hc
    isplitl [Hcr]; · iexact Hcr
    isplitl [Ho]; · iexact Ho
    iexact Hp
  iintro %W₁ ⟨Ho, Hp, Hr', Hb⟩
  ihave ⟨Hd, Ht⟩ := (copyToks_take d 0 (by decide)) $$ Ht
  iapply (startCopy_wp m 𝒱 bd d 1 _) $$ [Hw Hb' Hd]
  · isplitr; · iexact Hc
    isplitl [Hw]; · iexact Hw
    isplitl [Hb']; · iexact Hb'
    isplitl [Hd]; · iexact Hd
    iapply (ctx_reached m d (.copy 1) (by simp)); iexact Hc
  iintro ⟨Hw, Hcr⟩
  iapply (loads_wp m 𝒱 bd d 0 _) $$ [Hx Hb]
  · isplitl [Hx]; · iexact Hx
    iexact Hb
  iintro ⟨Hx, Hb⟩
  iapply (keep_wp m 𝒱 bd d _) $$ Hrow
  iintro Hrow
  iapply (chain_wp m 𝒱 bd d 30 _ (by decide)) $$ [Hx Hw Hb Hcr Hp Hp' Hr' Ht Ho Hl]
  · isplitr; · iexact Hc
    rw [show (31 - 30 : ℕ) = 1 from rfl, St, ← owe_one]
    isplitl [Hx]; · iexact Hx
    isplitl [Hw]; · iexact Hw
    isplitl [Hb]; · iexact Hb
    isplitl [Hcr]; · iexact Hcr
    isplitl [Hp']; · iexact Hp'
    isplitl [Hp]; · iexact Hp
    isplitl [Hr']; · iexact Hr'
    isplitl [Ht]; · iexact Ht
    isplitr; · iexact Hn
    isplitl [Ho]; · iexists _; iexact Ho
    isplitr
    · rw [show earlier 1 = ∅ by decide, BI.bigSep_empty]
      iempintro
    iexact Hl
  iintro H
  iapply Hk
  isplitl [H]; · iexact H
  iexact Hrow

end Cert.KernelIdeal.Steps

end
-- ==== Proof.Close.lean ====
/- The end of the body: the rows of the result put together, and the counters back at zero. -/
module

public import proofs.«01_k».proof.Proof.Enter
public import proofs.«01_k».proof.Proof.Body

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable {κ : Dev nD × Role → ℕ} {ν : Dev nD → ℕ}

/-! ### Families -/

theorem all_fupd {I : Type} [DecidableEq I] (C : sProp 𝕄) [BI.Persistent C] (S : Finset I) (Φ Ψ : I → sProp 𝕄)
    (h : ∀ i ∈ S, iprop(C ∗ Φ i) ⊢ (iprop(|={Set.univ}=> Ψ i) : sProp 𝕄)) :
    iprop(C ∗ bigSep S Φ) ⊢ (iprop(|={Set.univ}=> bigSep S Ψ) : sProp 𝕄) := by
  induction S using Finset.induction_on with
  | empty =>
    rw [BI.bigSep_empty, BI.bigSep_empty]
    iintro -
    imodintro
    iempintro
  | insert a S ha ih =>
    rw [show bigSep (insert a S) Φ = iprop(Φ a ∗ bigSep S Φ) from BI.bigSep_insert ha,
      show bigSep (insert a S) Ψ = iprop(Ψ a ∗ bigSep S Ψ) from BI.bigSep_insert ha]
    iintro ⟨#Hc, Ha, Hs⟩
    imod (h a (Finset.mem_insert_self _ _)) $$ [Ha] with Ha
    · isplitr; · iexact Hc
      iexact Ha
    imod (ih fun i hi => h i (Finset.mem_insert_of_mem hi)) $$ [Hs] with Hs
    · isplitr; · iexact Hc
      iexact Hs
    imodintro
    isplitl [Ha]; · iexact Ha
    iexact Hs

theorem bigSep_pairs {I : Type} (S : Finset I) (Φ Ψ : I → sProp 𝕄) :
    (bigSep S fun i => iprop(Φ i ∗ Ψ i)) = iprop(bigSep S Φ ∗ bigSep S Ψ) := BI.bigSep_sep S Φ Ψ

/-- The roles other than the door's. -/
abbrev roles : Finset Role := Finset.univ.erase (.recv 0)

theorem roles_eq : roles = insert (.stage 0) (insert (.stage 1) (insert (.copy 0) (insert (.copy 1) (insert (.send 0)
    (((later 1).map ⟨Role.send, fun a b h => by simpa using h⟩) ∪ ((later 1).map ⟨Role.recv, fun a b h => by simpa using h⟩)))))) := by
  decide +kernel

theorem roles_split (Φ : Role → sProp 𝕄) : bigSep roles Φ
    = iprop(Φ (.stage 0) ∗ Φ (.stage 1) ∗ Φ (.copy 0) ∗ Φ (.copy 1) ∗ Φ (.send 0)
      ∗ (bigSep (later 1) fun s => Φ (.send s)) ∗ (bigSep (later 1) fun s => Φ (.recv s))) := by
  rw [roles_eq, BI.bigSep_insert (by decide +kernel), BI.bigSep_insert (by decide +kernel), BI.bigSep_insert (by decide +kernel),
    BI.bigSep_insert (by decide +kernel), BI.bigSep_insert (by decide +kernel), BI.bigSep_union (by decide +kernel), BI.bigSep_map, BI.bigSep_map]
  rfl

theorem steps_split (Φ : Fin 32 → sProp 𝕄) : bigSep Finset.univ Φ = iprop(Φ 0 ∗ bigSep (later 1) Φ) := by
  rw [show (Finset.univ : Finset (Fin 32)) = insert 0 (later 1) by decide]
  exact BI.bigSep_insert (by decide)

theorem earlier_eq : earlier 32 = later 1 := by decide

/-! ### The counters -/

theorem sems_split (d : Dev nD) : (scopedSems0 (d : Thread nD τ) : sProp 𝕄)
    = iprop(semVal (door d) 0 ∗ bigSep roles fun q => semVal (cell d q) 0) := by
  rw [show (scopedSems0 (d : Thread nD τ) : sProp 𝕄) = _ from scopedSems0_tc d,
    show (Finset.univ.filter fun sm : SemLoc sig => sm.isScoped .tc) = Finset.univ by decide +kernel]
  refine (BI.bigSep_univ_equiv semEquiv _).trans ?_
  exact bigSep_at (Finset.mem_univ (Role.recv 0)) (fun q => (semVal (cell d q) 0 : sProp 𝕄))

theorem not_unitless (d : Dev nD) (q : Role) : ¬(Rd m).unitless (cell d q) := id

/-- Every semaphore's counter, once nothing more is to come onto it. -/
theorem close_cells (d : Dev nD) :
    iprop(ctx m κ ν ∗ bigSep roles fun q => atPos EM (cell d q) (rounds q) ∅ 0)
      ⊢ (iprop(|={Set.univ}=> bigSep roles fun q => semVal (cell d q) 0) : sProp 𝕄) := by
  refine all_fupd (ctx m κ ν) roles _ _ fun q hq => ?_
  iintro ⟨#Hc, Ha⟩
  iapply (cell_close EM (Rd m) (κ := κ (d, q)) (R := rounds q) (Set.mem_univ _) (not_unitless m d q) (fun r hr => by
    rw [Rd_duties, if_neg (Nat.not_lt.mpr hr)]))
  isplitr
  · iapply (ctx_cell m d q (Finset.ne_of_mem_erase hq)); iexact Hc
  · iexact Ha

/-! ### The rows of the result -/

theorem got_row (d : Dev nD) (s : Fin 32) (hs : s ∈ later 1) :
    iprop((ctx m κ ν ∗ entered d) ∗ got m (d - s : Fin 32) d s) ⊢ (iprop(|={Set.univ}=> rowGood m d (d - s : Fin 32)) : sProp 𝕄) := by
  have h0 : s ≠ 0 := fun h => (Finset.mem_filter.mp hs).2.2 (by rw [h]; rfl)
  have hne : (d - s : Fin 32) ≠ d := fun h => h0 (sub_eq_self.mp h)
  have hinj (s' : Fin 32) (h : (d - s' : Fin 32) = d - s) : s' = s := sub_right_injective (G := Fin 32) h
  unfold got rowGood
  by_cases h8 : s.val < 8
  · rw [if_pos h8]
    iintro ⟨⟨#Hc, #He⟩, Ht⟩
    imod (guard_swap (ν d) (d - s : Fin 32) d hne) $$ [Ht] with ⟨%f, Hf⟩
    · isplitr; · iapply (ctx_guard m d); iexact Hc
      isplitr; · iexact He
      iexact Ht
    imodintro
    iexists f
    isplitr
    · ipureintro
      intro s' hs' h
      have := hinj s' h
      subst this
      exact absurd hs' (by rintro (h | h); exacts [h0 (Fin.ext h), by omega])
    · iexact Hf
  · rw [if_neg h8]
    iintro ⟨-, ⟨%f, %hf, Hf⟩⟩
    imodintro
    iexists f
    isplitr
    · ipureintro
      intro s' _ h
      have := hinj s' h
      subst this
      exact hf
    · iexact Hf

theorem own_row (d : Dev nD) : ownRow m d ⊢ rowGood m d d := by
  unfold ownRow rowGood
  iintro ⟨%f, %hf, Hf⟩
  iexists f
  isplitr
  · ipureintro
    intro s _ h
    have := sub_eq_self.mp h
    subst this
    exact hf
  · iexact Hf

/-- The rows put together again. -/
theorem rows_finish (d : Dev nD) :
    iprop((ctx m κ ν ∗ entered d) ∗ ownRow m d ∗ bigSep (later 1) fun s : Fin 32 => got m (d - s : Fin 32) d s)
      ⊢ (iprop(|={Set.univ}=> ∃ f : Buf (Elt F) ((d : Thread nD τ).loc cc0_stg1_0), ⌜Good m d f⌝ ∗ (d : Thread nD τ).loc cc0_stg1_0 ↦{fullShare} f) : sProp 𝕄) := by
  have hall : bigSep Finset.univ (rowGood m d) = iprop(rowGood m d d ∗ bigSep (later 1) fun s : Fin 32 => rowGood m d (d - s : Fin 32)) := by
    rw [BI.bigSep_univ_equiv (Equiv.subLeft (G := Fin 32) d) (rowGood m d)]
    refine (steps_split _).trans ?_
    show iprop(rowGood m d (d - 0 : Fin 32) ∗ _) = _
    rw [sub_zero (G := Fin 32)]
    rfl
  iintro ⟨#Hc, Ho, Hs⟩
  imod (all_fupd iprop(ctx m κ ν ∗ entered d) (later 1) _ (fun s : Fin 32 => rowGood m d (d - s : Fin 32)) fun s hs => got_row m d s hs) $$ [Hs] with Hs
  · isplitr; · iexact Hc
    iexact Hs
  imodintro
  iapply (rows_join m d)
  rw [hall]
  isplitl [Ho]
  · iapply (own_row m d); iexact Ho
  · iexact Hs

end Cert.KernelIdeal.Steps

end
-- ==== Proof.Region.lean ====
/- The kernel's region: the fetch, the call of the body, the flush. -/
module

public import proofs.«01_k».proof.Proof.Close

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable {κ : Dev nD × Role → ℕ} {ν : Dev nD → ℕ}

/-! ### The staged operands -/

theorem set_unit_full {S : Shape} (off size : Fin S.rank → ℕ) (inb : ∀ a, off a + size a ≤ S.size a) (h0 : off = fun _ => 0) (hs : size = S.size) :
    (Rect.unit off size inb).set = Finset.univ := by
  subst h0 hs
  exact Rect.set_whole S

abbrev xB : Memref sig .tc .hbm S128x4096 .f32 := (cfg0.win 0).blk t0_0
abbrev xS : Memref sig .tc .vmem S128x4096 .f32 := (cfg0.win 0).stg t0_0 (cfg0.slots t0_0 0)
abbrev oB : Memref sig .tc .hbm S4096x256 .f32 := (cfg0.win 1).blk t0_0
abbrev oS : Memref sig .tc .vmem S4096x256 .f32 := (cfg0.win 1).stg t0_0 (cfg0.slots t0_0 1)

theorem xB_set : xB.view.set = Finset.univ := by
  rw [show xB.view.set = _ from View.set_slice_whole _ _]
  exact set_unit_full _ _ _ (funext fun _ => Nat.zero_mul _) rfl
theorem xS_set : xS.view.set = Finset.univ := by
  rw [show xS.view.set = _ from View.set_slice_whole _ _]
  exact set_unit_full _ _ _ rfl rfl
theorem oS_set : oS.view.set = Finset.univ := by
  rw [show oS.view.set = _ from View.set_slice_whole _ _]
  exact set_unit_full _ _ _ rfl rfl
theorem oB_set : oB.view.set = Finset.univ := by
  rw [show oB.view.set = _ from View.set_slice_whole _ _]
  exact set_unit_full _ _ _ (funext fun _ => Nat.zero_mul _) rfl
theorem xS_write (f w : Vec F S128x4096 .f32) : xS.view.write (Elt F) f w Finset.univ = w :=
  Memref.write_access_unit_zero_univ (Elt F) cc0_stg0_0 rfl _ f w
theorem oS_read (f : Vec F S4096x256 .f32) : oS.view.read (Elt F) f = f :=
  Memref.read_access_unit_zero (Elt F) cc0_stg1_0 rfl _ f
theorem oB_write (f w : Vec F S4096x256 .f32) : oB.view.write (Elt F) f w Finset.univ = w :=
  Memref.write_access_unit_zero_univ (Elt F) main_v1 (funext fun _ => Nat.zero_mul _) _ f w

/-! ### The program of the region -/

/-- What a device runs in the kernel's region: the fetch, the body, the flush. -/
abbrev Outer (F : FTy → Type) [FloatOps F] : Type 1 :=
  Prog (TpuEff nD τ sig (Elt F) (Pipeline.Sig Λ₀ (Fin 1) fun p => (pcfgs (F := F) p).Adm) .tc) PUnit

def flush (F : FTy → Type) [FloatOps F] : Outer F :=
  .op (cfg0.startOut 1 t0_0) fun _ => .op (cfg0.waitOut 1 t0_0) fun _ => .ret ⟨⟩

def callBody (F : FTy → Type) [FloatOps F] : Outer F :=
  .op (.call (Pipeline.kernel cfg0.body) (cfg0.bodyArgs t0_0 (cfg0.slots t0_0))) fun _ => flush F

def region (F : FTy → Type) [FloatOps F] : Outer F :=
  .op (cfg0.startIn 0 t0_0) fun _ => .op (cfg0.waitIn 0 t0_0) fun _ => callBody F

theorem prun_eq : ∃ (C : Prop) (h : Decidable C), C ∧ Pipeline.prun (pcfgs (F := F)) 0 = Prog.op (.assume C h) fun _ => region F :=
  ⟨True, instDecidableTrue, trivial, rfl⟩

/-! ### Fetch and flush -/

theorem pay_stage0 (d : Dev nD) : pay m d 0 (.stage 0)
    = iprop((d : Thread nD τ).loc cc0_stg0_0 ↦{fullShare} (X m d : Buf (Elt F) ((d : Thread nD τ).loc cc0_stg0_0))) := rfl

theorem pay_stage1 (d : Dev nD) : pay m d 0 (.stage 1) = iprop((∃ f, (d : Thread nD τ).loc cc0_stg1_0 ↦{fullShare} f)
    ∗ ∃ f : Buf (Elt F) ((d : Thread nD τ).loc main_v1), ⌜Good m d f⌝ ∗ (d : Thread nD τ).loc main_v1 ↦{fullShare} f) := rfl

theorem fetch_wp (𝒱 : Variants) (bd : Option 𝒱.V) {Q : PUnit → sProp 𝕄} (d : Dev nD) (W₀ : Waits sig Unit) (k : Outer F) :
    iprop(ctx m κ ν ∗ (∃ q : PosShare TreeShare, (d : Thread nD τ).loc main_arg0 ↦{q} m ((d : Thread nD τ).loc main_arg0))
        ∗ anyBuf (F := F) d cc0_stg0_0 ∗ dutyTok EM (cell d (.stage 0)) 0 () ∗ atPos EM (cell d (.stage 0)) 0 ∅ 0
        ∗ owes (d : Thread nD τ) (owe d 0) W₀)
      ⊢ iprop((∀ W₁, (∃ q : PosShare TreeShare, (d : Thread nD τ).loc main_arg0 ↦{q} m ((d : Thread nD τ).loc main_arg0))
            ∗ xFull m d ∗ atPos EM (cell d (.stage 0)) 1 ∅ 0 ∗ owes (d : Thread nD τ) (owe d 0) W₁
            -∗ wp frame (wpE (defs (F := F)) 𝒱 d bd) Set.univ k Q)
          -∗ wp frame (wpE (defs (F := F)) 𝒱 d bd) Set.univ (.op (cfg0.startIn 0 t0_0) fun _ => .op (cfg0.waitIn 0 t0_0) fun _ => k) Q) := by
  unfold Pipeline.Cfg.startIn Pipeline.Cfg.waitIn
  iintro ⟨#Hc, ⟨%q, Ha⟩, ⟨%f, Hs⟩, Ht, Hp, Ho⟩ Hk
  ihave Ha := (pointsTo_share (PosShare.mem_left_op_right q)).1 $$ Ha
  icases Ha with ⟨Ha, Ha'⟩
  have hpay : iprop(((xS.view.loc (d : Thread nD τ)) ↦[xS.view.set]{fullShare}
        (xS.view.write (Elt F) f (X m d) Finset.univ))
      ∗ ((xB.view.loc (d : Thread nD τ)) ↦[xB.view.set]{q.right} m ((d : Thread nD τ).loc main_arg0)))
      ⊢ (Rd m).payload (cell d (.stage 0)) 0 () := by
    rw [Rd_payload, pay_stage0, xS_write, xS_set]
    iintro ⟨H, -⟩
    iexact H
  iapply (wp_copy_pointsTo 𝒱 EM (Rd m) (d : Thread nD τ) bd (src := xB) (dst := xS)
    (Rd_mem m d (.stage 0) 0 Nat.one_pos) () (units (.stage 0)) rfl (Rd_amount m d _ _ _) hpay) $$ [Ha' Hs Ht]
  · isplitr
    · iapply (ctx_cell m d (.stage 0) (by simp)); iexact Hc
    isplitl [Ha']
    · rw [xB_set]; iexact Ha'
    isplitl [Hs]
    · rw [xS_set]; iexact Hs
    isplitl [Ht]; · iexact Ht
    iapply (ctx_reached m d (.stage 0) (by simp)); iexact Hc
  iintro Hcr
  iapply (await_wp m (defs (F := F)) 𝒱 bd (src := xB) (dst := xS) (k := fun _ => k) d (.stage 0) (by simp) 0 Nat.one_pos 0 (Nat.zero_le _) rfl) $$ [Hcr Ho Hp]
  · isplitr; · iexact Hc
    isplitl [Hcr]; · iexact Hcr
    isplitl [Ho]; · iexact Ho
    iexact Hp
  iintro %W₁ ⟨Ho, Hp, -, Hx⟩
  iapply Hk
  isplitl [Ha]; · iexists _; iexact Ha
  isplitl [Hx]; · unfold xFull; iapply (Entails.of_eq (pay_stage0 m d)); iexact Hx
  isplitl [Hp]; · iexact Hp
  iexact Ho

theorem flush_wp (𝒱 : Variants) (bd : Option 𝒱.V) {Q : PUnit → sProp 𝕄} (d : Dev nD) (W₀ : Waits sig Unit) :
    iprop(ctx m κ ν ∗ (∃ f : Buf (Elt F) ((d : Thread nD τ).loc cc0_stg1_0), ⌜Good m d f⌝ ∗ (d : Thread nD τ).loc cc0_stg1_0 ↦{fullShare} f)
        ∗ anyBuf (F := F) d main_v1 ∗ dutyTok EM (cell d (.stage 1)) 0 () ∗ atPos EM (cell d (.stage 1)) 0 ∅ 0
        ∗ owes (d : Thread nD τ) (owe d 32) W₀)
      ⊢ iprop((∀ W₁, pay m d 0 (.stage 1) ∗ atPos EM (cell d (.stage 1)) 1 ∅ 0 ∗ owes (d : Thread nD τ) (owe d 32) W₁ -∗ |={Set.univ}=> Q ⟨⟩)
          -∗ wp frame (wpE (defs (F := F)) 𝒱 d bd) Set.univ (flush F) Q) := by
  iintro ⟨#Hc, ⟨%g, %hg, Hs⟩, ⟨%f, Ha⟩, Ht, Hp, Ho⟩ Hk
  unfold flush Pipeline.Cfg.startOut Pipeline.Cfg.waitOut
  have hpay : iprop(((oB.view.loc (d : Thread nD τ)) ↦[oB.view.set]{fullShare}
        (oB.view.write (Elt F) f (oS.view.read (Elt F) g) Finset.univ))
      ∗ ((oS.view.loc (d : Thread nD τ)) ↦[oS.view.set]{fullShare} g))
      ⊢ (Rd m).payload (cell d (.stage 1)) 0 () := by
    rw [Rd_payload, pay_stage1, oB_write, oS_read, oB_set, oS_set]
    iintro ⟨H, H'⟩
    isplitl [H']; · iexists g; iexact H'
    iexists g
    isplitr; · ipureintro; exact hg
    iexact H
  iapply (wp_copy_pointsTo 𝒱 EM (Rd m) (d : Thread nD τ) bd (src := oS) (dst := oB)
    (Rd_mem m d (.stage 1) 0 Nat.one_pos) () (units (.stage 1)) rfl (Rd_amount m d _ _ _) hpay) $$ [Ha Hs Ht]
  · isplitr
    · iapply (ctx_cell m d (.stage 1) (by simp)); iexact Hc
    isplitl [Hs]
    · rw [oS_set]; iexact Hs
    isplitl [Ha]
    · rw [oB_set]; iexact Ha
    isplitl [Ht]; · iexact Ht
    iapply (ctx_reached m d (.stage 1) (by simp)); iexact Hc
  iintro Hcr
  iapply (await_wp m (defs (F := F)) 𝒱 bd (src := oS) (dst := oB) d (.stage 1) (by simp) 0 Nat.one_pos 32 (Nat.zero_le _) rfl) $$ [Hcr Ho Hp]
  · isplitr; · iexact Hc
    isplitl [Hcr]; · iexact Hcr
    isplitl [Ho]; · iexact Ho
    iexact Hp
  iintro %W₁ ⟨Ho, Hp, -, Hx⟩
  rw [wp_ret]
  iapply Hk $$ %W₁
  isplitl [Hx]; · iexact Hx
  isplitl [Hp]; · iexact Hp
  iexact Ho

/-! ### The body's call -/

theorem call_wp (d : Dev nD) (bd : Option Variants.none.lift.V) (hbd : ∀ v ∈ bd, Variants.none.lift.lt (.inl none) v) {Q : PUnit → sProp 𝕄} :
    iprop(ctx m κ ν ∗ Start m d)
      ⊢ iprop((Done m d ∗ ownRow m d -∗ wp frame (wpE (defs (F := F)) Variants.none.lift d bd) Set.univ (flush F) Q)
          -∗ wp frame (wpE (defs (F := F)) Variants.none.lift d bd) Set.univ (callBody F) Q) := by
  have h𝔻 := Pipeline.defs_kernel (pcfgs (F := F)) defs₀
  iintro H Hk
  unfold callBody
  iapply (wp_call Variants.none.lift (d : Thread nD τ) bd Set.univ (Q := Q) (ℓ := Pipeline.kernel cfg0.body)
    (a := cfg0.bodyArgs t0_0 (cfg0.slots t0_0)) (k := fun _ => flush F) (Sum.inl none) hbd)
  iapply (show wp frame (wpE (defs (F := F)) Variants.none.lift (d : Thread nD τ) (some (.inl none))) Set.univ
        (Pipeline.liftProg (defs₀ (F := F) .tc cfg0.body (cfg0.bodyArgs t0_0 (cfg0.slots t0_0)))) _
      ⊢ wp frame (wpE (defs (F := F)) Variants.none.lift (d : Thread nD τ) (some (.inl none))) Set.univ
        (defs .tc (Pipeline.kernel cfg0.body) (cfg0.bodyArgs t0_0 (cfg0.slots t0_0))) _ from by rw [show defs (F := F) .tc _ _ = _ from h𝔻 .tc cfg0.body _])
  iapply (Pipeline.wp_liftProg (defs (F := F)) h𝔻 Variants.none (d : Thread nD τ) Set.univ none)
  iapply (body_wp m Variants.none none d) $$ H
  iexact Hk

/-! ### What a device is dealt, and the region -/

/-- What it takes to make a step, beside the slot of the product and the positions. -/
def due (d : Dev nD) (s : Fin 32) : sProp 𝕄 :=
  iprop(tok (F := F) d (d + s : Fin 32) ∗ dutyTok EM (cell (d + s : Fin 32) (.recv s)) 0 () ∗ dutyTok EM (cell d (.send s)) 0 ()
    ∗ cred (tallyAt (cell d (.recv s)) () (units (.recv s))))

theorem todo_intro (d : Dev nD) (s : Fin 32) :
    iprop(prodAny (F := F) d s ∗ due d s ∗ atPos EM (cell d (.send s)) 0 ∅ 0 ∗ atPos EM (cell d (.recv s)) 0 ∅ 0) ⊢ todo (F := F) d s := by
  unfold due todo
  iintro ⟨H₁, ⟨H₂, H₃, H₄, H₅⟩, H₆, H₇⟩
  isplitl [H₁]; · iexact H₁
  isplitl [H₂]; · iexact H₂
  isplitl [H₃]; · iexact H₃
  isplitl [H₄]; · iexact H₄
  isplitl [H₆]; · iexact H₆
  isplitl [H₇]; · iexact H₇
  iexact H₅

theorem todo_all (d : Dev nD) :
    iprop(bigSep (later 1) (prodAny (F := F) d) ∗ bigSep (later 1) (due d) ∗ (bigSep (later 1) fun s => atPos EM (cell d (.send s)) 0 ∅ 0)
        ∗ (bigSep (later 1) fun s => atPos EM (cell d (.recv s)) 0 ∅ 0)) ⊢ bigSep (later 1) (todo (F := F) d) := by
  have h : bigSep (later 1) (fun s => iprop(prodAny (F := F) d s ∗ due d s ∗ atPos EM (cell d (.send s)) 0 ∅ 0 ∗ atPos EM (cell d (.recv s)) 0 ∅ 0))
      ⊢ bigSep (later 1) (todo (F := F) d) := BI.bigSep_mono fun s _ => todo_intro d s
  rw [bigSep_pairs, bigSep_pairs, bigSep_pairs] at h
  exact h

theorem made_all (d : Dev nD) : bigSep (later 1) (made m d)
    = iprop(bigSep (later 1) (prodAny (F := F) d) ∗ (bigSep (later 1) fun s => atPos EM (cell d (.send s)) 1 ∅ 0)
      ∗ (bigSep (later 1) fun s => atPos EM (cell d (.recv s)) 1 ∅ 0) ∗ bigSep (later 1) fun s => got m (d - s : Fin 32) d s) := by
  rw [← bigSep_pairs, ← bigSep_pairs, ← bigSep_pairs]
  rfl

theorem rounds_later (s : Fin 32) (hs : s ∈ later 1) : rounds (.send s) = 1 ∧ rounds (.recv s) = 1 := by
  have h := (Finset.mem_filter.mp hs).2.2
  exact ⟨if_neg h, if_neg h⟩

/-- The positions after the last round of each semaphore. -/
theorem positions_end (d : Dev nD) :
    iprop(atPos (EM (F := F)) (cell d (.stage 0)) 1 ∅ 0 ∗ atPos (EM (F := F)) (cell d (.stage 1)) 1 ∅ 0
        ∗ atPos (EM (F := F)) (cell d (.copy 0)) 16 ∅ 0 ∗ atPos (EM (F := F)) (cell d (.copy 1)) 16 ∅ 0 ∗ atPos (EM (F := F)) (cell d (.send 0)) 0 ∅ 0
        ∗ (bigSep (later 1) fun s => atPos (EM (F := F)) (cell d (.send s)) 1 ∅ 0) ∗ (bigSep (later 1) fun s => atPos (EM (F := F)) (cell d (.recv s)) 1 ∅ 0))
      ⊢ bigSep roles fun q => atPos (EM (F := F)) (cell d q) (rounds q) ∅ 0 := by
  have h₁ : (bigSep (later 1) fun s => atPos (EM (F := F)) (cell d (.send s)) (rounds (.send s)) ∅ 0)
      = bigSep (later 1) fun s => atPos (EM (F := F)) (cell d (.send s)) 1 ∅ 0 := BI.bigSep_congr fun s hs => by rw [(rounds_later s hs).1]
  have h₂ : (bigSep (later 1) fun s => atPos (EM (F := F)) (cell d (.recv s)) (rounds (.recv s)) ∅ 0)
      = bigSep (later 1) fun s => atPos (EM (F := F)) (cell d (.recv s)) 1 ∅ 0 := BI.bigSep_congr fun s hs => by rw [(rounds_later s hs).2]
  rw [roles_split, h₁, h₂]
  exact BIBase.Entails.rfl

/-- What a device has on entering the kernel, beside the staging of its result. -/
def Hold (d : Dev nD) : sProp 𝕄 :=
  iprop((∃ q : PosShare TreeShare, (d : Thread nD τ).loc main_arg0 ↦{q} m ((d : Thread nD τ).loc main_arg0)) ∗ wShare m d ∗ anyBuf (F := F) d main_v1
    ∗ (∃ W₀, owes (d : Thread nD τ) (owe d 0) W₀) ∗ (bigSep roles fun q => atPos (EM (F := F)) (cell d q) 0 ∅ 0)
    ∗ dutyTok EM (cell d (.stage 0)) 0 () ∗ dutyTok EM (cell d (.stage 1)) 0 () ∗ dutyTok EM (cell d (.copy 0)) 0 () ∗ copyToks d 0
    ∗ bigSep (later 1) (due d))

/-- What it leaves with: its arguments as they were, its result as far as it is known, nothing owed. -/
def Out (d : Dev nD) : sProp 𝕄 :=
  iprop((∃ q : PosShare TreeShare, (d : Thread nD τ).loc main_arg0 ↦{q} m ((d : Thread nD τ).loc main_arg0)) ∗ wShare m d
    ∗ (∃ f : Buf (Elt F) ((d : Thread nD τ).loc main_v1), ⌜Good m d f⌝ ∗ (d : Thread nD τ).loc main_v1 ↦{fullShare} f))

theorem region_wp (d : Dev nD) (bd : Option Variants.none.lift.V) (hbd : ∀ v ∈ bd, Variants.none.lift.lt (.inl none) v) {Q : PUnit → sProp 𝕄} :
    iprop(ctx m κ ν ∗ Hold m d ∗ brought (F := F) d ∗ entered d ∗ rowAny d d)
      ⊢ iprop((Out m d ∗ (∃ W₁, owes (d : Thread nD τ) 0 W₁) ∗ brought (F := F) d ∗ anyBuf (F := F) d cc0_stg1_0
            ∗ (bigSep roles fun q => semVal (cell d q) 0) -∗ Q ⟨⟩)
          -∗ wp frame (wpE (defs (F := F)) Variants.none.lift d bd) Set.univ (region F) Q) := by
  unfold Hold brought Out region
  rw [roles_split]
  iintro ⟨#Hc, ⟨Hx, Hw, Hv, ⟨%W₀, Ho⟩, ⟨Hp₀, Hp₁, Hq₀, Hq₁, Hs₀, Hs, Hr⟩, Ht₀, Ht₁, Hk₀, Hks, Hdue⟩, ⟨Hb₀, Hbc, Hbp⟩, #He, Hrow⟩ Hk
  icases Hbc with ⟨%fc, Hbc⟩
  icases Hbp with ⟨%fp, Hbp⟩
  ihave ⟨Hc₀, Hc₁⟩ := (slots_split d fc) $$ Hbc
  ihave Hbp := (prods_split d fp) $$ Hbp
  ihave ⟨Hy₀, Hy⟩ := (Entails.of_eq (steps_split (prodAny (F := F) d))) $$ Hbp
  iapply (fetch_wp m Variants.none.lift bd d W₀ (callBody F)) $$ [Hx Hb₀ Ht₀ Hp₀ Ho]
  · isplitr; · iexact Hc
    isplitl [Hx]; · iexact Hx
    isplitl [Hb₀]; · iexact Hb₀
    isplitl [Ht₀]; · iexact Ht₀
    isplitl [Hp₀]; · iexact Hp₀
    iexact Ho
  iintro %W₁ ⟨Hx, Hb₀, Hp₀, Ho⟩
  iapply (call_wp m d bd hbd) $$ [Hb₀ Hw Hc₀ Hc₁ Hq₀ Hq₁ Hk₀ Hks Ho Hrow Hy Hdue Hs Hr]
  · isplitr; · iexact Hc
    unfold Start
    isplitl [Hb₀]; · iexact Hb₀
    isplitl [Hw]; · iexact Hw
    isplitl [Hc₀]; · iexact Hc₀
    isplitl [Hc₁]; · iexact Hc₁
    isplitl [Hq₀]; · iexact Hq₀
    isplitl [Hq₁]; · iexact Hq₁
    isplitl [Hk₀]; · iexact Hk₀
    isplitl [Hks]; · iexact Hks
    isplitr; · iapply (known_intro d); iexact He
    isplitl [Ho]; · iexists _; iexact Ho
    isplitl [Hrow]; · unfold rowAny; iexact Hrow
    iapply (todo_all d)
    isplitl [Hy]; · iexact Hy
    isplitl [Hdue]; · iexact Hdue
    isplitl [Hs]; · iexact Hs
    iexact Hr
  unfold Done
  rw [earlier_eq, made_all]
  iintro ⟨⟨Hb₀, Hw, Hc₀, Hc₁, Hq₀, Hq₁, ⟨%W₂, Ho⟩, ⟨Hy, Hs, Hr, Hg⟩⟩, Hown⟩
  imod (rows_finish m d) $$ [Hown Hg] with Hres
  · isplitr
    · isplitr; · iexact Hc
      iexact He
    isplitl [Hown]; · iexact Hown
    iexact Hg
  iapply (flush_wp m Variants.none.lift bd d W₂) $$ [Hres Hv Ht₁ Hp₁ Ho]
  · isplitr; · iexact Hc
    isplitl [Hres]; · iexact Hres
    isplitl [Hv]; · iexact Hv
    isplitl [Ht₁]; · iexact Ht₁
    isplitl [Hp₁]; · iexact Hp₁
    iexact Ho
  rw [pay_stage1]
  iintro %W₃ ⟨⟨Hst, Hv⟩, Hp₁, Ho⟩
  imod (close_cells m d) $$ [Hp₀ Hp₁ Hq₀ Hq₁ Hs₀ Hs Hr] with Hsem
  · isplitr; · iexact Hc
    iapply (positions_end d)
    isplitl [Hp₀]; · iexact Hp₀
    isplitl [Hp₁]; · iexact Hp₁
    isplitl [Hq₀]; · iexact Hq₀
    isplitl [Hq₁]; · iexact Hq₁
    isplitl [Hs₀]; · iexact Hs₀
    isplitl [Hs]; · iexact Hs
    iexact Hr
  imodintro
  iapply Hk
  isplitl [Hx Hw Hv]
  · isplitl [Hx]; · iexact Hx
    isplitl [Hw]; · iexact Hw
    iexact Hv
  isplitl [Ho]
  · rw [owe_last]; iexists _; iexact Ho
  isplitl [Hb₀ Hc₀ Hc₁ Hy₀ Hy]
  · isplitl [Hb₀]; · unfold xFull; iexists _; iexact Hb₀
    isplitl [Hc₀ Hc₁]
    · iapply (slots_join d)
      isplitl [Hc₀]; · iexact Hc₀
      iexact Hc₁
    iapply (prods_join d)
    iapply (Entails.of_eq (steps_split (prodAny (F := F) d)).symm)
    isplitl [Hy₀]; · iexact Hy₀
    iexact Hy
  isplitl [Hst]; · iexact Hst
  iexact Hsem

/-! ### A device's run -/

/-- What a device is dealt at the start. -/
def Deal (d : Dev nD) : sProp 𝕄 :=
  iprop(openTok (EM (F := F)) (door d) ∗ semVal (door d) 0 ∗ brought (F := F) d ∗ Hold m d)

theorem run_wp (d : Dev nD) :
    iprop(ctx m κ ν ∗ Deal m d)
      ⊢ wp frame (wpE (defs (F := F)) Variants.none.lift d none) Set.univ (main (F := F) d)
          fun _ => iprop((Out m d ∗ scopedSems0 (d : Thread nD τ)) ∗ ∃ W₁, owes (d : Thread nD τ) 0 W₁) := by
  obtain ⟨C, hdec, hC, hrun⟩ := prun_eq (F := F)
  have hm : main (F := F) d = .op (.customCall (Pipeline.entry 0) ()) fun _ => .ret ⟨⟩ := rfl
  rw [hm]
  unfold Deal
  iintro ⟨#Hc, Ht, Hz, Hb, Hh⟩
  iapply (enter_wp (ν := ν) Variants.none.lift none d (.inr 1) (by simp)) $$ [Ht Hb]
  · isplitr; · iapply (ctx_guard m d); iexact Hc
    isplitl [Ht]; · iexact Ht
    iexact Hb
  iintro ⟨Hb, #He, Hrow⟩
  rw [show defs (F := F) .tc (Pipeline.entry 0) () = Pipeline.prun (pcfgs (F := F)) 0 from rfl, hrun]
  iapply (wp_assume Variants.none.lift (d : Thread nD τ) _ Set.univ hC)
  iapply (region_wp m d (some (.inr 1)) (fun v hv => by
    obtain rfl := Option.mem_some.mp hv
    exact Sum.Lex.sep _ _)) $$ [Hh Hb Hrow]
  · isplitr; · iexact Hc
    isplitl [Hh]; · iexact Hh
    isplitl [Hb]; · iexact Hb
    isplitr; · iexact He
    iexact Hrow
  iintro ⟨Hout, Ho, Hb, Hst, Hsem⟩
  rw [kernelExitSpec_apply]
  isplitl [Hz Hsem]
  · rw [sems_split]
    isplitl [Hz]; · iexact Hz
    iexact Hsem
  iintro Hz
  isplitl [Hb Hst]
  · iapply (scopedBufs_brought d)
    isplitl [Hb]; · iexact Hb
    iexact Hst
  iintro -
  rw [wp_ret]
  imodintro
  isplitr [Ho]
  · isplitl [Hout]; · iexact Hout
    iexact Hz
  iexact Ho

end Cert.KernelIdeal.Steps

end
-- ==== Proof.Launch.lean ====
/- The launch: what every device is dealt, and the run of the whole machine. -/
module

public import proofs.«01_k».proof.Proof.Region
public import Idealize.ShloMosaic.Lib.Quiescent
public import Idealize.ShloMosaic.Adequacy
public import Idealize.ShloMosaic.Init

@[expose] public section

set_option maxRecDepth 65536

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable {κ : Dev nD × Role → ℕ} {ν : Dev nD → ℕ}

/-! ### The tokens -/

/-- The tokens of one device's semaphores: of its staged operands, of its copies step by step, of its sends, of its receipts,
    and of the rights to write its result. -/
abbrev Token : Type := Fin 2 ⊕ Fin 32 ⊕ Fin 32 ⊕ Fin 32 ⊕ Fin 32

/-- The semaphore and the round of a token. -/
def tokenAt : Token → Role × ℕ
  | .inl w => (.stage w, 0)
  | .inr (.inl u) => (.copy (par u), u.val / 2)
  | .inr (.inr (.inl s)) => (.send s, 0)
  | .inr (.inr (.inr (.inl s))) => (.recv s, 0)
  | .inr (.inr (.inr (.inr c))) => (.recv c, 1)

/-- The token of a semaphore and a round. -/
def tokenFrom : Role × ℕ → Token
  | (.inl w, _) => .inl w
  | (.inr (.inl b), r) => .inr (.inl (Fin.ofNat 32 (2 * r + b.val)))
  | (.inr (.inr (.inl s)), _) => .inr (.inr (.inl s))
  | (.inr (.inr (.inr s)), 0) => .inr (.inr (.inr (.inl s)))
  | (.inr (.inr (.inr s)), _ + 1) => .inr (.inr (.inr (.inr s)))

theorem tokenFrom_tokenAt : ∀ t : Token, tokenFrom (tokenAt t) = t
  | .inl _ => rfl
  | .inr (.inl u) => congrArg (fun v => Sum.inr (Sum.inl v)) (ofNat_par u)
  | .inr (.inr (.inl _)) => rfl
  | .inr (.inr (.inr (.inl _))) => rfl
  | .inr (.inr (.inr (.inr _))) => rfl

theorem tokenAt_inj (t t' : Token) (h : tokenAt t = tokenAt t') : t = t' := by
  rw [← tokenFrom_tokenAt t, h, tokenFrom_tokenAt]

theorem cell_inj {d d' : Dev nD} {q q' : Role} (h : cell d q = cell d' q') : d = d' ∧ q = q' := by
  refine ⟨congrArg (fun g : GSem nD τ sig => g.1.1) h, semOf_inj ?_⟩
  have h' : SemLoc.dma (semOf q) = SemLoc.dma (semOf q') := congrArg (fun g : GSem nD τ sig => g.2) h
  exact SemLoc.dma.inj h'

def tokenOf : Dev nD × Token ↪ GSem nD τ sig × ℕ × Unit where
  toFun p := (cell p.1 (tokenAt p.2).1, (tokenAt p.2).2, ())
  inj' := fun p p' h => by
    have h₁ := cell_inj (congrArg Prod.fst h)
    have h₂ : (tokenAt p.2).2 = (tokenAt p'.2).2 := congrArg (fun x : GSem nD τ sig × ℕ × Unit => x.2.1) h
    exact Prod.ext h₁.1 (tokenAt_inj _ _ (Prod.ext h₁.2 h₂))

def cellOf : Dev nD × Role ↪ GSem nD τ sig where
  toFun p := cell p.1 p.2
  inj' := fun p p' h => Prod.ext (cell_inj h).1 (cell_inj h).2

def doorOf : Dev nD ↪ GSem nD τ sig where
  toFun d := door d
  inj' := fun d d' h => (cell_inj h).1

/-- The cells whose rounds begin at the launch, those that a device's entry opens, and the tokens. -/
abbrev cells₀ : Finset (GSem nD τ sig) := live.map cellOf
abbrev doors₀ : Finset (GSem nD τ sig) := Finset.univ.map doorOf
def tokens₀ : Finset (GSem nD τ sig × ℕ × Unit) := Finset.univ.map tokenOf

theorem cells_doors : Disjoint cells₀ doors₀ := by
  rw [Finset.disjoint_left]
  intro g hg hg'
  obtain ⟨p, hp, rfl⟩ := Finset.mem_map.mp hg
  obtain ⟨d, -, h⟩ := Finset.mem_map.mp hg'
  exact (Finset.mem_filter.mp hp).2 (cell_inj h).2.symm

theorem live_family (Φ : Dev nD × Role → sProp 𝕄) : bigSep live Φ = bigSep Finset.univ fun d : Dev nD => bigSep roles fun q => Φ (d, q) := by
  unfold live
  rw [BI.bigSep_filter, BI.bigSep_univ_prod]
  refine BI.bigSep_congr fun d _ => ?_
  rw [← BI.bigSep_filter Finset.univ (fun q : Role => q ≠ .recv 0) (fun q => Φ (d, q)), Finset.filter_ne']

/-- The tokens, family by family. -/
theorem tokens_families : bigSep tokens₀ (fun x => dutyTok (EM (F := F)) x.1 x.2.1 x.2.2)
    = iprop((bigSep Finset.univ fun d : Dev nD => bigSep Finset.univ fun w : Fin 2 => dutyTok (EM (F := F)) (cell d (.stage w)) 0 ())
      ∗ (bigSep Finset.univ fun d : Dev nD => bigSep Finset.univ fun u : Fin 32 => dutyTok (EM (F := F)) (cell d (.copy (par u))) (u.val / 2) ())
      ∗ (bigSep Finset.univ fun d : Dev nD => bigSep Finset.univ fun s : Fin 32 => dutyTok (EM (F := F)) (cell d (.send s)) 0 ())
      ∗ (bigSep Finset.univ fun d : Dev nD => bigSep Finset.univ fun s : Fin 32 => dutyTok (EM (F := F)) (cell d (.recv s)) 0 ())
      ∗ (bigSep Finset.univ fun d : Dev nD => bigSep Finset.univ fun c : Fin 32 => tok (F := F) c d)) := by
  unfold tokens₀
  rw [← bigSep_pairs, ← bigSep_pairs, ← bigSep_pairs, ← bigSep_pairs, BI.bigSep_map, BI.bigSep_univ_prod]
  refine BI.bigSep_congr fun d _ => ?_
  rw [BI.bigSep_univ_sum, BI.bigSep_univ_sum, BI.bigSep_univ_sum, BI.bigSep_univ_sum]
  rfl

/-- A family over the devices and the steps, each device's taken from the one that many steps ahead. -/
theorem ahead (Φ : Dev nD → Fin 32 → sProp 𝕄) : (bigSep Finset.univ fun d : Dev nD => bigSep Finset.univ fun s : Fin 32 => Φ d s)
    = bigSep Finset.univ fun d : Dev nD => bigSep Finset.univ fun s : Fin 32 => Φ (d + s : Fin 32) s := by
  rw [BI.bigSep_univ_comm, BI.bigSep_univ_comm (fun (d : Dev nD) (s : Fin 32) => Φ (d + s : Fin 32) s)]
  refine BI.bigSep_congr fun s _ => ?_
  exact BI.bigSep_univ_equiv (Equiv.addRight (G := Fin 32) s) fun d : Fin 32 => Φ d s

/-- The rights to write, each with the device that may use it, by the step it is used in. -/
theorem rights : (bigSep Finset.univ fun d : Dev nD => bigSep Finset.univ fun c : Fin 32 => tok (F := F) c d)
    = bigSep Finset.univ fun d : Dev nD => bigSep Finset.univ fun s : Fin 32 => tok (F := F) d (d + s : Fin 32) := by
  rw [BI.bigSep_univ_comm]
  refine BI.bigSep_congr fun c _ => ?_
  exact BI.bigSep_univ_equiv (Equiv.addLeft (G := Fin 32) c) fun d : Fin 32 => tok (F := F) c d

/-- The tokens a device needs, out of the families'. -/
theorem tokens_device (d : Dev nD) :
    iprop((bigSep Finset.univ fun w : Fin 2 => dutyTok (EM (F := F)) (cell d (.stage w)) 0 ())
      ∗ (bigSep Finset.univ fun u : Fin 32 => dutyTok (EM (F := F)) (cell d (.copy (par u))) (u.val / 2) ())
      ∗ (bigSep Finset.univ fun s : Fin 32 => dutyTok (EM (F := F)) (cell d (.send s)) 0 ())
      ∗ (bigSep Finset.univ fun s : Fin 32 => dutyTok (EM (F := F)) (cell (d + s : Fin 32) (.recv s)) 0 ())
      ∗ (bigSep Finset.univ fun s : Fin 32 => tok (F := F) d (d + s : Fin 32))
      ∗ (bigSep (later 1) fun s => cred (tallyAt (cell d (.recv s)) () (units (.recv s)))))
    ⊢ iprop(dutyTok (EM (F := F)) (cell d (.stage 0)) 0 () ∗ dutyTok EM (cell d (.stage 1)) 0 () ∗ dutyTok EM (cell d (.copy 0)) 0 () ∗ copyToks d 0
      ∗ bigSep (later 1) (due (F := F) d)) := by
  have hdue : bigSep (later 1) (due (F := F) d) = iprop((bigSep (later 1) fun s => tok (F := F) d (d + s : Fin 32))
      ∗ (bigSep (later 1) fun s => dutyTok (EM (F := F)) (cell (d + s : Fin 32) (.recv s)) 0 ())
      ∗ (bigSep (later 1) fun s => dutyTok (EM (F := F)) (cell d (.send s)) 0 ())
      ∗ (bigSep (later 1) fun s => cred (tallyAt (cell d (.recv s)) () (units (.recv s))))) := by
    rw [← bigSep_pairs, ← bigSep_pairs, ← bigSep_pairs]
    rfl
  have hcopy : copyToks (F := F) d 0 = bigSep (later 1) fun u : Fin 32 => dutyTok (EM (F := F)) (cell d (.copy (par u))) (u.val / 2) () := by
    unfold copyToks
    rw [show (Finset.univ.filter fun u : Fin 32 => 0 < u.val) = later 1 by decide]
  rw [hdue, hcopy, steps_split, steps_split, steps_split, steps_split,
    show (bigSep Finset.univ fun w : Fin 2 => dutyTok (EM (F := F)) (cell d (.stage w)) 0 ()) = iprop(dutyTok (EM (F := F)) (cell d (.stage 0)) 0 () ∗ dutyTok (EM (F := F)) (cell d (.stage 1)) 0 ())
      from BI.bigSep_fin_two _]
  iintro ⟨⟨H₀, H₁⟩, ⟨Hk, Hks⟩, ⟨-, Hs⟩, ⟨-, Hr⟩, ⟨-, Ht⟩, Hc⟩
  isplitl [H₀]; · iexact H₀
  isplitl [H₁]; · iexact H₁
  isplitl [Hk]; · iexact Hk
  isplitl [Hks]; · iexact Hks
  isplitl [Ht]; · iexact Ht
  isplitl [Hr]; · iexact Hr
  isplitl [Hs]; · iexact Hs
  iexact Hc

/-! ### A device's share of the launch -/

variable (ρ : Dev nD → PrngReg)

/-- The machine as it is launched. -/
abbrev launched : MemSt nD τ sig (Elt F) := ⟨m, fun _ => 0, ρ⟩

theorem credits (d : Dev nD) : Pipeline.launchCred (Ix := Unit) (Val := Elt F) (Name := ℕ) (U := UR sig nD τ) (Lvl := ℕ) (fun d : Dev nD => owe d 0) d
    ⊢ (bigSep (later 1) fun s => cred (tallyAt (cell d (.recv s)) () (units (.recv s))) : sProp 𝕄) := by
  rw [show (fun d : Dev nD => owe d 0) = fun d : Dev nD => ∑ t ∈ later 1, tallyAt (cell (d + t : Fin 32) (.recv t)) () (units (.recv t)) from
    funext fun d => (owe_one d).symm, Pipeline.launchCred_sum]
  exact BI.bigSep_mono fun t _ => Pipeline.launchCred_tallyAt (.dma (semOf (.recv t))) (fun d : Dev nD => (d + t : Fin 32)) (fun d : Dev nD => (d - t : Fin 32))
    (fun c => sub_add_cancel (G := Fin 32) c t) (fun c => add_sub_cancel_right (G := Fin 32) c t) () _ d

/-- Its arguments, and the place of its result. -/
def argsHeld (d : Dev nD) : sProp 𝕄 :=
  iprop((∃ q : PosShare TreeShare, (d : Thread nD τ).loc main_arg0 ↦{q} m ((d : Thread nD τ).loc main_arg0)) ∗ wShare m d ∗ anyBuf (F := F) d main_v1)

theorem core_share (d : Dev nD) :
    coreInit (Ix := Unit) (Name := ℕ) (U := UR sig nD τ) (Lvl := ℕ) (Pipeline.owing fun d : Dev nD => owe d 0) 0 (launched m ρ) (d : Thread nD τ)
      ⊢ (iprop((brought (F := F) d ∗ anyBuf (F := F) d cc0_stg1_0) ∗ (semVal (door d) 0 ∗ bigSep roles fun q => semVal (cell d q) 0)
        ∗ argsHeld m d
        ∗ (∃ W₀, owes (d : Thread nD τ) (owe d 0) W₀)
        ∗ (bigSep Finset.univ fun sm : SemLoc sig => levels ((d.tc : Thread nD τ), sm) ∅)
        ∗ bigSep (later 1) fun s => cred (tallyAt (cell d (.recv s)) () (units (.recv s)))) : sProp 𝕄) := by
  refine BIBase.Entails.trans (Pipeline.coreInit_boundary_owing (fun d : Dev nD => owe d 0) m ρ d) ?_
  have hub : unscopedBufs (Ix := Unit) (Val := Elt F) (Name := ℕ) (U := UR sig nD τ) (Lvl := ℕ) d (fun b => m ((d.tc : Thread nD τ).loc b))
      = (iprop(((d : Thread nD τ).loc main_arg0 ↦{fullShare} m ((d : Thread nD τ).loc main_arg0)) ∗ ((d : Thread nD τ).loc main_arg1 ↦{fullShare} m ((d : Thread nD τ).loc main_arg1))
        ∗ ((d : Thread nD τ).loc main_v1 ↦{fullShare} m ((d : Thread nD τ).loc main_v1))) : sProp 𝕄) := by
    unfold unscopedBufs
    exact bigSep_eq_bigSepL_of_eq [main_arg0, main_arg1, main_v1] (by decide) (by decide) _
  rw [hub]
  unfold boundary argsHeld wShare
  rw [sems_split]
  iintro ⟨⟨Hb, Hs, -⟩, ⟨Ha, Hw, Hv⟩, -, Ho, Hl, -, Hc⟩
  isplitl [Hb]; · iapply (brought_scopedBufs d); iexact Hb
  isplitl [Hs]; · iexact Hs
  isplitl [Ha Hw Hv]
  · isplitl [Ha]; · iexists _; iexact Ha
    isplitl [Hw]; · iexists _; iexact Hw
    iexists _; iexact Hv
  isplitl [Ho]; · iexists _; iexact Ho
  isplitl [Hl]; · unfold levels0; iexact Hl
  iapply (credits (F := F) d)
  iexact Hc

theorem deal_intro (d : Dev nD) :
    iprop(openTok (EM (F := F)) (door d) ∗ semVal (door d) 0 ∗ brought (F := F) d
      ∗ argsHeld m d
      ∗ (∃ W₀, owes (d : Thread nD τ) (owe d 0) W₀) ∗ (bigSep roles fun q => atPos (EM (F := F)) (cell d q) 0 ∅ 0)
      ∗ ((bigSep Finset.univ fun w : Fin 2 => dutyTok (EM (F := F)) (cell d (.stage w)) 0 ())
        ∗ (bigSep Finset.univ fun u : Fin 32 => dutyTok (EM (F := F)) (cell d (.copy (par u))) (u.val / 2) ())
        ∗ (bigSep Finset.univ fun s : Fin 32 => dutyTok (EM (F := F)) (cell d (.send s)) 0 ())
        ∗ (bigSep Finset.univ fun s : Fin 32 => dutyTok (EM (F := F)) (cell (d + s : Fin 32) (.recv s)) 0 ())
        ∗ (bigSep Finset.univ fun s : Fin 32 => tok (F := F) d (d + s : Fin 32))
        ∗ (bigSep (later 1) fun s => cred (tallyAt (cell d (.recv s)) () (units (.recv s))))))
    ⊢ Deal m d := by
  unfold Deal Hold argsHeld
  iintro ⟨Hop, Hz, Hb, ⟨Ha, Hw, Hv⟩, Ho, Hp, Ht⟩
  isplitl [Hop]; · iexact Hop
  isplitl [Hz]; · iexact Hz
  isplitl [Hb]; · iexact Hb
  isplitl [Ha]; · iexact Ha
  isplitl [Hw]; · iexact Hw
  isplitl [Hv]; · iexact Hv
  isplitl [Ho]; · iexact Ho
  isplitl [Hp]; · iexact Hp
  iapply (tokens_device d)
  iexact Ht

/-! ### The launch -/

/-- Every device's share, family by family. -/
theorem cores_families :
    (bigSep Finset.univ fun d : Dev nD => coreInit (Ix := Unit) (Name := ℕ) (U := UR sig nD τ) (Lvl := ℕ) (Pipeline.owing fun d : Dev nD => owe d 0) 0 (launched m ρ) (d : Thread nD τ))
      ⊢ (iprop(((bigSep Finset.univ fun d : Dev nD => brought (F := F) d) ∗ bigSep Finset.univ fun d : Dev nD => anyBuf (F := F) d cc0_stg1_0)
        ∗ ((bigSep Finset.univ fun d : Dev nD => semVal (door d) 0) ∗ bigSep Finset.univ fun d : Dev nD => bigSep roles fun q => semVal (cell d q) 0)
        ∗ (bigSep Finset.univ fun d : Dev nD => argsHeld m d)
        ∗ (bigSep Finset.univ fun d : Dev nD => iprop(∃ W₀, owes (d : Thread nD τ) (owe d 0) W₀))
        ∗ (bigSep Finset.univ fun d : Dev nD => bigSep Finset.univ fun sm : SemLoc sig => levels ((d.tc : Thread nD τ), sm) ∅)
        ∗ bigSep Finset.univ fun d : Dev nD => bigSep (later 1) fun s => cred (tallyAt (cell d (.recv s)) () (units (.recv s)))) : sProp 𝕄) := by
  rw [← bigSep_pairs, ← bigSep_pairs, ← bigSep_pairs, ← bigSep_pairs, ← bigSep_pairs, ← bigSep_pairs, ← bigSep_pairs]
  exact BI.bigSep_mono fun d _ => core_share m ρ d

/-- Every device's deal, family by family. -/
theorem deals_families :
    iprop((bigSep Finset.univ fun d : Dev nD => openTok (EM (F := F)) (door d)) ∗ (bigSep Finset.univ fun d : Dev nD => semVal (door d) 0)
      ∗ (bigSep Finset.univ fun d : Dev nD => brought (F := F) d)
      ∗ (bigSep Finset.univ fun d : Dev nD => argsHeld m d)
      ∗ (bigSep Finset.univ fun d : Dev nD => iprop(∃ W₀, owes (d : Thread nD τ) (owe d 0) W₀))
      ∗ (bigSep Finset.univ fun d : Dev nD => bigSep roles fun q => atPos (EM (F := F)) (cell d q) 0 ∅ 0)
      ∗ bigSep tokens₀ (fun x => dutyTok (EM (F := F)) x.1 x.2.1 x.2.2)
      ∗ (bigSep Finset.univ fun d : Dev nD => bigSep (later 1) fun s => cred (tallyAt (cell d (.recv s)) () (units (.recv s)))))
    ⊢ bigSep Finset.univ (Deal m) := by
  have h : (bigSep Finset.univ fun d : Dev nD => _) ⊢ bigSep Finset.univ (Deal m) := BI.bigSep_mono fun d _ => deal_intro m d
  rw [bigSep_pairs, bigSep_pairs, bigSep_pairs, bigSep_pairs, bigSep_pairs, bigSep_pairs, bigSep_pairs, bigSep_pairs, bigSep_pairs, bigSep_pairs, bigSep_pairs] at h
  rw [tokens_families, rights, ahead fun d s => dutyTok (EM (F := F)) (cell d (.recv s)) 0 ()]
  refine BIBase.Entails.trans ?_ h
  iintro ⟨H₁, H₂, H₃, H₄, H₅, H₆, ⟨H₇, H₈, H₉, Hr, Ht⟩, Hc⟩
  isplitl [H₁]; · iexact H₁
  isplitl [H₂]; · iexact H₂
  isplitl [H₃]; · iexact H₃
  isplitl [H₄]; · iexact H₄
  isplitl [H₅]; · iexact H₅
  isplitl [H₆]; · iexact H₆
  isplitl [H₇]; · iexact H₇
  isplitl [H₈]; · iexact H₈
  isplitl [H₉]; · iexact H₉
  isplitl [Hr]; · iexact Hr
  isplitl [Ht]; · iexact Ht
  iexact Hc

theorem guard_intro (d : Dev nD) : iprop((unopenedAuth (EM (F := F)) (door d) ∗ ledgerAuth (EM (F := F)) (door d) 0 ∅ fun _ => 0) ∗ anyBuf (F := F) d cc0_stg1_0)
    ⊢ guard (F := F) d := by
  unfold guard
  iintro ⟨⟨H, -⟩, H'⟩
  ileft
  isplitl [H]; · iexact H
  iexact H'

/-- What the devices are dealt, and what they may all use, from the launch. -/
theorem launch :
    iprop((bigSep Finset.univ fun d : Dev nD => coreInit (Ix := Unit) (Name := ℕ) (U := UR sig nD τ) (Lvl := ℕ) (Pipeline.owing fun d : Dev nD => owe d 0) 0 (launched m ρ) (d : Thread nD τ))
        ∗ ownU (launchOf cells₀ doors₀ tokens₀))
      ⊢ (iprop(|={Set.univ}=> ∃ x : (Dev nD × Role → ℕ) × (Dev nD → ℕ), bigSep Finset.univ (fun d => iprop(ctx m x.1 x.2 ∗ Deal m d)) ∗ emp) : sProp 𝕄) := by
  have hguard : iprop((bigSep Finset.univ fun d : Dev nD => iprop(unopenedAuth (EM (F := F)) (door d) ∗ ledgerAuth (EM (F := F)) (door d) 0 ∅ fun _ => 0))
      ∗ bigSep Finset.univ fun d : Dev nD => anyBuf (F := F) d cc0_stg1_0) ⊢ bigSep Finset.univ (guard (F := F)) := by
    rw [← bigSep_pairs]
    exact BI.bigSep_mono fun d _ => guard_intro d
  have hbodies : iprop((bigSep live fun p => semVal (cell p.1 p.2) 0) ∗ bigSep live fun p => roundState (EM (F := F)) (Rd m) (cell p.1 p.2) 0)
      ⊢ bigSep live fun p => Rounds.body (EM (F := F)) (Rd m) (cell p.1 p.2) := by
    have h := bodies_intro (EM (F := F)) (Rd m) cells₀
    rw [BI.bigSep_map, BI.bigSep_map, BI.bigSep_map] at h
    exact h
  have hfund := Rounds.fund (EM (F := F)) (Rd m) cells₀ tokens₀
  have hdormant := own_dormantOf (EM (F := F)) doors₀
  rw [BI.bigSep_map, BI.bigSep_map, BI.bigSep_map] at hfund
  rw [BI.bigSep_map, BI.bigSep_map] at hdormant
  have hu : (ownU (launchOf cells₀ doors₀ tokens₀) : sProp 𝕄) ⊢ BI.own (EM (F := F) (launchOf cells₀ doors₀ tokens₀)) := BIBase.Entails.rfl
  iintro ⟨Hcores, Hu0⟩
  ihave Hu := hu $$ Hu0
  ihave ⟨⟨Hb, Hst⟩, ⟨Hz, Hsem⟩, Hargs, Ho, Hlev, Hcr⟩ := (cores_families m ρ) $$ Hcores
  imod (Smoke.lev_assign_devs (fun _ => Finset.univ) lev) $$ Hlev with ⟨-, Hlev⟩
  ihave ⟨Hlive, Hdoors⟩ := (own_launchOf_split (EM (F := F)) cells_doors tokens₀) $$ Hu
  imod hfund $$ Hlive with ⟨Hrs, Hre, Hat, Htok⟩
  ihave ⟨Hun, Hop⟩ := hdormant $$ Hdoors
  imod (inv_alloc_family Finset.univ (guard (F := F)) ∅) $$ [Hun Hst] with ⟨%ν, -, Hguard⟩
  · iapply hguard
    isplitl [Hun]; · iexact Hun
    iexact Hst
  imod (inv_alloc_family live (fun p => Rounds.body (EM (F := F)) (Rd m) (cell p.1 p.2)) ∅) $$ [Hsem Hrs] with ⟨%κ, -, Hcells⟩
  · iapply hbodies
    isplitl [Hsem]
    · rw [live_family]; iexact Hsem
    iexact Hrs
  imodintro
  iexists (κ, ν)
  isplitr []
  · rw [bigSep_pairs]
    isplitl [Hcells Hre Hguard Hlev]
    · iapply (bigSep_of_persistent Finset.univ (ctx m κ ν))
      unfold ctx
      isplitl [Hcells]; · iexact Hcells
      isplitl [Hre]; · iexact Hre
      isplitl [Hguard]; · iexact Hguard
      iexact Hlev
    iapply (deals_families m)
    isplitl [Hop]; · iexact Hop
    isplitl [Hz]; · iexact Hz
    isplitl [Hb]; · iexact Hb
    isplitl [Hargs]; · iexact Hargs
    isplitl [Ho]; · iexact Ho
    isplitl [Hat]
    · iapply (Entails.of_eq (live_family fun p => atPos (EM (F := F)) (cell p.1 p.2) 0 ∅ 0)); iexact Hat
    isplitl [Htok]; · iexact Htok
    iexact Hcr
  iempintro

/-! ### The end -/

/-- What is read at the end on one device. -/
theorem read_device (d : Dev nD) (s' : Phys nD τ sig (Elt F)) :
    iprop((Out m d ∗ scopedSems0 (d : Thread nD τ)) ∗ SI s')
      ⊢ (iprop(|={Set.univ}=> (⌜(Good m d (s'.mem.mem ((d : Thread nD τ).loc main_v1))
            ∧ s'.mem.mem ((d : Thread nD τ).loc main_arg0) = m ((d : Thread nD τ).loc main_arg0)
            ∧ s'.mem.mem ((d : Thread nD τ).loc main_arg1) = m ((d : Thread nD τ).loc main_arg1))
          ∧ ∀ sm : SemLoc sig, sm.isScoped .tc = true → s'.mem.sem ((d : Thread nD τ), sm) = 0⌝ ∗ SI s')) : sProp 𝕄) := by
  unfold Out wShare
  iintro ⟨⟨⟨⟨%q, Ha⟩, ⟨%q', Hw⟩, ⟨%f, %hf, Hv⟩⟩, Hs⟩, HSI⟩
  icombine HSI Ha gives %ha
  icombine HSI Hw gives %hw
  icombine HSI Hv gives %hv
  ihave %hs := (tcScoped_read_pers d s') $$ [Hs HSI]
  · isplitl [Hs]; · iexact Hs
    iexact HSI
  imodintro
  isplitr
  · ipureintro
    refine ⟨⟨?_, funext fun i => ha i (Finset.mem_univ i), funext fun i => hw i (Finset.mem_univ i)⟩, hs⟩
    rw [show s'.mem.mem ((d : Thread nD τ).loc main_v1) = f from funext fun i => hv i (Finset.mem_univ i)]
    exact hf
  iexact HSI

/-- What is true when every device has returned. -/
def Final (r : PUnit × MemSt nD τ sig (Elt F)) : Prop :=
  (∀ d : Dev nD, Good m d (r.2.mem ((d : Thread nD τ).loc main_v1))
    ∧ r.2.mem ((d : Thread nD τ).loc main_arg0) = m ((d : Thread nD τ).loc main_arg0)
    ∧ r.2.mem ((d : Thread nD τ).loc main_arg1) = m ((d : Thread nD τ).loc main_arg1))
  ∧ r.2.sem = fun _ => 0

theorem finish :
    iprop(bigSep Finset.univ (fun d : Dev nD => iprop(Out m d ∗ scopedSems0 (d : Thread nD τ))) ∗ emp ∗ scSems (launched m ρ))
      ⊢ (iprop(∀ s', SI s' -∗ |={Set.univ, Set.univ}=> ⌜Final m (⟨⟩, s'.mem)⌝) : sProp 𝕄) := by
  iintro ⟨H, -, Hsc⟩ %s' HSI
  ihave %hsc := (scSems_read_zero m ρ s') $$ [Hsc HSI]
  · isplitl [Hsc]; · iexact Hsc
    iexact HSI
  imod (posts_fupd Finset.univ (read_device m) s') $$ [H HSI] with %hq
  · isplitl [H]; · iexact H
    iexact HSI
  imodintro
  ipureintro
  exact ⟨fun d => (hq d (Finset.mem_univ d)).1, sem_eq_zero_of_scoped (by decide +kernel)
    (sems_of_reads (fun d sm h => (hq d (Finset.mem_univ d)).2 sm h) hsc)⟩

theorem reflects : reflect (θ_ghost (Ix := Unit) (Name := ℕ) (U := UR sig nD τ) (Lvl := ℕ) (defs (F := F)) (onTc (τ := τ) (main (F := F)))) (launched m ρ) (Final m) := by
  refine reflect_intro_fupd_tc_sems (X := (Dev nD × Role → ℕ) × (Dev nD → ℕ)) (Ix := Unit) (Name := ℕ) (U := UR sig nD τ) (Lvl := ℕ) Variants.none.lift (Pipeline.owing fun d : Dev nD => owe d 0) 0
    (noBookings fun _ => le_rfl) (fun c h => Pipeline.owing_of_ne _ c h) (launchOf cells₀ doors₀ tokens₀)
    (fun x d => iprop(ctx m x.1 x.2 ∗ Deal m d)) (fun _ d => iprop(Out m d ∗ scopedSems0 (d : Thread nD τ))) (fun _ => iprop(emp)) Set.univ
    ?_ ?_ ?_
  · exact launch m ρ
  · intro x d
    unfold post
    simp only [liftTc_tc]
    exact run_wp m d
  · exact fun _ => finish m ρ

/-- The run of the machine: it ends, whatever the order in which the devices are scheduled, with the arguments as they were,
    the results as far as they are known, and every semaphore back at zero. -/
theorem run_main : θ_run (defs (F := F)) (onTc (τ := τ) (main (F := F))) (launched m ρ) (Final m) := by
  have h : reflect (θ_ghost (Ix := Unit) (Name := ℕ) (U := UR sig nD τ) (Lvl := ℕ) (defs (F := F)) (onTc (τ := τ) (main (F := F)))) (launched m ρ) (Final m) := reflects m ρ
  exact adequate_tpu (defs (F := F)) _ _ _ h

end Cert.KernelIdeal.Steps

end
-- ==== Proof.Mask.lean ====
/- Which elements of the result the claim speaks of. -/
module

public import proofs.«01_k».proof.Proof.Gen.On_ordered
public import Idealize.ShloMosaic.Lib.Pointwise
public import Idealize.ShloMosaic.PureOps.Ideal

@[expose] public section

set_option maxRecDepth 65536

noncomputable section

namespace Cert.On_ordered.Steps

open Idealize.ShloMosaic
open Cert.On_ordered Cert.On_ordered.Gen

/-- The sign of a word. -/
def sgn (a : BitVec 32) : BitVec 32 := if a = 0 then 0 else if a.msb then -1 else 1

/-- The quotient rounded down, as the mask computes it. -/
def quot (a b : BitVec 32) : BitVec 32 :=
  Scalar.select (IntOp.andi (IntOp.cmpi .ne (sgn a) (sgn b)) (IntOp.cmpi .ne (IntOp.remsi .host a b) 0#32))
    (IntOp.subi (IntOp.divsi .host a b) 1#32) (IntOp.divsi .host a b)

/-- The remainder with the sign of the divisor, 32, as the mask computes it. -/
def stepOf (a : BitVec 32) : BitVec 32 :=
  let n : BitVec 32 := Scalar.select (IntOp.cmpi .eq 32#32 0#32) 1#32 32#32
  let r := IntOp.remsi .host a n
  Scalar.select (IntOp.andi (IntOp.cmpi .ne (IntOp.cmpi .slt r 0#32) (IntOp.cmpi .slt n 0#32)) (IntOp.cmpi .ne r 0#32)) (IntOp.addi r n) r

/-- Whether a step is one of those kept. -/
def keep (a : BitVec 32) : BitVec 1 := IntOp.ori (IntOp.cmpi .eq a 0#32) (IntOp.cmpi .sge a 8#32)

theorem fn_at (x : FVec Ideal S4096x4096 .f32) (w : FVec Ideal S4096x8192 .f32) (r : Fin 4096) (c : Fin 8192) :
    fn (F := Ideal) x w (ix2 r c) = keep (stepOf (IntOp.subi (quot (BitVec.ofNat 32 c.val) 256#32) (quot (BitVec.ofNat 32 r.val) 128#32))) := by
  pointwise [fn, fn_floor_divide, fn_floor_divide_0, fn_where, fn_where_1, fn_where_2, fn_remainder]
  rfl

theorem quot_cols : ∀ c : Fin 8192, quot (BitVec.ofNat 32 c.val) 256#32 = BitVec.ofNat 32 (c.val / 256) := by decide +kernel

theorem quot_rows : ∀ r : Fin 4096, quot (BitVec.ofNat 32 r.val) 128#32 = BitVec.ofNat 32 (r.val / 128) := by decide +kernel

theorem kept : ∀ b a : Fin 32, keep (stepOf (IntOp.subi (BitVec.ofNat 32 b.val) (BitVec.ofNat 32 a.val))) = 1#1 → (b - a).val = 0 ∨ 8 ≤ (b - a).val := by
  decide +kernel

/-- An element the mask keeps lies in a row block whose device is no step, or at least 8 steps, before that of its columns. -/
theorem kept_at (x : FVec Ideal S4096x4096 .f32) (w : FVec Ideal S4096x8192 .f32) (a b : Fin 32) (r : Fin 4096) (c : Fin 8192)
    (hr : r.val / 128 = a.val) (hc : c.val / 256 = b.val) (h : fn (F := Ideal) x w (ix2 r c) = 1#1) :
    (b - a).val = 0 ∨ 8 ≤ (b - a).val := by
  rw [fn_at, quot_cols, quot_rows, hr, hc] at h
  exact kept b a h

end Cert.On_ordered.Steps

end
-- ==== Proof.Value.lean ====
/- The row blocks of a result are blocks of the product of the whole arrays. -/
module

public import proofs.«01_k».proof.Proof.Region
public import proofs.«01_k».proof.Proof.Mask
public import proofs.«01_k».proof.Proof.Gen.ReferenceIdeal
public import Idealize.ShloMosaic.Lib.Layout
public import Idealize.ShloMosaic.Lib.Pointwise

@[expose] public section

set_option maxRecDepth 65536

noncomputable section

namespace Cert.KernelIdeal.Steps

open Idealize.ShloMosaic Idealize.ShloMosaic.TcCoe
open Cert.KernelIdeal Cert.KernelIdeal.Gen

variable {F : FTy → Type} [FloatOps F] (m : (ℓ : Loc nD τ sig) → Buf (Elt F) ℓ)

theorem X_eq (d : Dev nD) : X m d = m ((d : Thread nD τ).loc main_arg0) :=
  Memref.read_access_unit_zero (Elt F) main_arg0 (funext fun _ => Nat.zero_mul _) _ _

theorem off1_eq (d : Dev nD) (s : Fin 32) : k0_off1 d (BitVec.ofNat 32 s.val) = ![0, 256 * (d + s : Fin 32).val] := by
  have h : ∀ (d : Dev nD) (s : Fin 32), k0_off1 d (BitVec.ofNat 32 s.val) 1 = 256 * (d + s : Fin 32).val := by decide +kernel
  funext a
  fin_cases a
  · rfl
  · exact h d s

theorem W_at (d : Dev nD) (s : Fin 32) (k : Fin 4096) (l : Fin 256) (C : Fin 8192) (hC : C.val = 256 * (d + s : Fin 32).val + l.val) :
    W m d s (ix2 k l) = m ((d : Thread nD τ).loc main_arg1) (ix2 k C) := by
  show m ((d : Thread nD τ).loc main_arg1) ((Rect.unit (s := S4096x8192) (k0_off1 d (BitVec.ofNat 32 s.val)) S4096x256.size (k0_off1_inb d s)).emb (ix2 k l)) = _
  congr 1
  funext a
  apply Fin.ext
  have h : ∀ a : Fin 2, ((Rect.unit (s := S4096x8192) (k0_off1 d (BitVec.ofNat 32 s.val)) S4096x256.size (k0_off1_inb d s)).emb (ix2 k l) a).val
      = k0_off1 d (BitVec.ofNat 32 s.val) a + (ix2 k l a).val := fun a => by simp [Rect.emb, Rect.unit]
  rw [h, off1_eq]
  fin_cases a
  · exact Nat.zero_add _
  · exact hC.symm

theorem row_at (c : Dev nD) (f : Vec F S4096x256 .f32) (r : Fin 128) (l : Fin 256) (R : Fin 4096) (hR : R.val = 128 * c.val + r.val) :
    rowBlock c f (ix2 r l) = f (ix2 R l) := by
  unfold rowBlock
  congr 1
  funext a
  apply Fin.ext
  have h : ∀ a : Fin 2, ((Rect.unit (s := S4096x256) (k0_off3 c) S128x256.size (k0_off3_inb c)).emb (ix2 r l) a).val
      = k0_off3 c a + (ix2 r l a).val := fun a => by simp [Rect.emb, Rect.unit]
  rw [h, off3_eq]
  fin_cases a
  · exact hR.symm
  · exact Nat.zero_add _

theorem P_at (m : (ℓ : Loc nD τ sig) → Buf (Elt Ideal) ℓ) (d : Dev nD) (s : Fin 32) (r : Fin 128) (l : Fin 256) :
    P m d s (ix2 r l) = ∑ k : Fin 4096, (X m d (ix2 r k) * W m d s (ix2 k l) : EReal) := by
  unfold P
  pointwise

theorem ref_at (x : FVec Ideal Cert.ReferenceIdeal.S4096x4096 .f32) (w : FVec Ideal Cert.ReferenceIdeal.S4096x8192 .f32) (R : Fin 4096) (C : Fin 8192) :
    Host.dotGeneral Cert.ReferenceIdeal.dot_S4096x4096_S4096x8192_S4096x8192_1_0_0_1_n_n none x w (ix2 R C) = ∑ k : Fin 4096, (x (ix2 R k) * w (ix2 k C) : EReal) := by
  pointwise

/-- The reference's value at the whole arguments. -/
abbrev product (x : FVec Ideal Cert.ReferenceIdeal.S4096x4096 .f32) (w : FVec Ideal Cert.ReferenceIdeal.S4096x8192 .f32) :
    FVec Ideal Cert.ReferenceIdeal.S4096x8192 .f32 :=
  Host.dotGeneral Cert.ReferenceIdeal.dot_S4096x4096_S4096x8192_S4096x8192_1_0_0_1_n_n none x w

/-- An element of a result that the mask keeps is the element of the product of the whole arrays. -/
theorem good_at (m : (ℓ : Loc nD τ sig) → Buf (Elt Ideal) ℓ)
    (x : FVec Ideal Cert.ReferenceIdeal.S4096x4096 .f32) (w : FVec Ideal Cert.ReferenceIdeal.S4096x8192 .f32)
    (hx : ∀ c : Dev nD, m ((c : Thread nD τ).loc main_arg0) = Layout.block ⟨2, ![128, 4096]⟩ ⟨2, ![4096, 4096]⟩ 0 32 c x)
    (hw : ∀ c : Dev nD, m ((c : Thread nD τ).loc main_arg1) = w)
    (d : Dev nD) (f : Vec Ideal S4096x256 .f32) (hf : Good m d f) (i : (⟨2, ![4096, 256]⟩ : Shape).Idx)
    (hi : (Layout.block ⟨2, ![4096, 256]⟩ ⟨2, ![4096, 8192]⟩ 1 32 d (Cert.On_ordered.fn (F := Ideal) x w) : (⟨2, ![4096, 256]⟩ : Shape).Idx → _) i = 1#1) :
    f i = (Layout.block ⟨2, ![4096, 256]⟩ ⟨2, ![4096, 8192]⟩ 1 32 d (product x w) : (⟨2, ![4096, 256]⟩ : Shape).Idx → _) i := by
  obtain ⟨R, l, rfl⟩ : ∃ (R : Fin 4096) (l : Fin 256), i = ix2 R l := ⟨i 0, i 1, eq_ix2 i⟩
  have hC : 256 * d.val + l.val < 8192 := by
    have hd : d.val < 32 := d.isLt
    have := l.isLt
    omega
  have hidx : ∀ h : Layout.Tiles ⟨2, ![4096, 256]⟩ ⟨2, ![4096, 8192]⟩ 1 32, h.idx d (ix2 R l) = ix2 R ⟨256 * d.val + l.val, hC⟩ := by
    intro h
    funext a
    apply Fin.ext
    fin_cases a
    · rfl
    · exact congrArg (· + l.val) (Nat.mul_comm _ _)
  rw [Layout.block_apply, hidx] at hi ⊢
  have hc : R.val / 128 < 32 := by have := R.isLt; omega
  have hr : R.val % 128 < 128 := Nat.mod_lt _ (by decide)
  have hs := Cert.On_ordered.Steps.kept_at x w ⟨R.val / 128, hc⟩ d R ⟨256 * d.val + l.val, hC⟩ rfl
    (by show (256 * d.val + l.val) / 256 = d.val; have := l.isLt; omega) hi
  have hg := hf (d - ⟨R.val / 128, hc⟩ : Fin 32) hs
  rw [sub_sub_cancel] at hg
  have hR : R.val = 128 * (R.val / 128) + R.val % 128 := by omega
  rw [← row_at ⟨R.val / 128, hc⟩ f ⟨R.val % 128, hr⟩ l R hR, hg, P_at, show product x w (ix2 R ⟨256 * d.val + l.val, hC⟩) = _ from ref_at x w R ⟨256 * d.val + l.val, hC⟩]
  refine Finset.sum_congr rfl fun k _ => ?_
  rw [W_at m ⟨R.val / 128, hc⟩ _ k l ⟨256 * d.val + l.val, hC⟩ (by rw [add_sub_cancel]), hw, X_eq, hx]
  congr 1
  rw [Layout.block_apply]
  congr 1
  funext a
  apply Fin.ext
  fin_cases a
  · show R.val / 128 * 128 + R.val % 128 = R.val
    omega
  · rfl

end Cert.KernelIdeal.Steps

end
-- ==== Proof.lean ====
/- The claims: the frames, that the idealization changes nothing, and the value at the elements of the mask. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.On_ordered
public import proofs.«01_k».proof.Proof.Launch
public import proofs.«01_k».proof.Proof.Value
public import Idealize.ShloMosaic.Adequacy
public import Idealize.ShloMosaic.Init

@[expose] public section

set_option maxRecDepth 65536

noncomputable section

namespace Cert.Proof

open Idealize.ShloMosaic Idealize.SL.Sem Cert.KernelIdeal.Steps

/-- The frame, over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_main m ρ)

/-- The two programs have the same bodies, label by label. -/
theorem bodies_eq : Cert.Kernel.defs₀ (F := Bits) = Cert.KernelIdeal.defs₀ (F := Bits) := by
  refine congrArg Defs.onTc (funext fun l => funext fun a => ?_)
  match l, a with
  | 0, (_, _) => rfl

theorem defs_eq : Cert.Kernel.defs (F := Bits) = Cert.KernelIdeal.defs (F := Bits) := congrArg (Pipeline.defs _) bodies_eq

theorem frame_kernel : Cert.quiescent_Kernel := by
  intro m ρ _
  rw [defs_eq]
  exact frame_any (F := Bits) m ρ

theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem value : Cert.algebraic_KernelIdeal_ReferenceIdeal_on_ordered := fun m ρ m' ρ' _ hargs =>
  ⟨product _ _,
    (θ_run Cert.KernelIdeal.defs _ _).mono
      (fun _ h c => ⟨fun i hi => good_at m _ _ (fun c => (hargs c).1) (fun c => (hargs c).2) c _ (h.1 c).1 i hi, (h.1 c).2⟩)
      (run_main (F := Ideal) m ρ),
    (θ_run Cert.ReferenceIdeal.defs _ _).mono (fun _ h => ⟨fun i _ => congrFun (h 0).1 i, (h 0).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.On_ordered.Gen.facts,
    frame_kernel, frame_ideal, frame_reference, trivial, value⟩

end Cert.Proof

end
